-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 64]⟩ ⟨2, ![2048, 64]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 64]⟩ ⟨2, ![2048, 64]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x64 : Shape := ⟨2, ![128, 64]⟩
abbrev S16x128x64 : Shape := ⟨3, ![16, 128, 64]⟩
abbrev S512x128 : Shape := ⟨2, ![512, 128]⟩
abbrev S256x128 : Shape := ⟨2, ![256, 128]⟩
abbrev S128x128 : Shape := ⟨2, ![128, 128]⟩
abbrev S15 : Shape := ⟨1, ![15]⟩
abbrev S16 : Shape := ⟨1, ![16]⟩
abbrev S_ : Shape := ⟨0, ![]⟩
abbrev S128x1 : Shape := ⟨2, ![128, 1]⟩
abbrev S64x2x1x64 : Shape := ⟨4, ![64, 2, 1, 64]⟩
abbrev S64x1x1x64 : Shape := ⟨4, ![64, 1, 1, 64]⟩
abbrev S64x1x64 : Shape := ⟨3, ![64, 1, 64]⟩
abbrev S32x2x2x64 : Shape := ⟨4, ![32, 2, 2, 64]⟩
abbrev S32x1x2x64 : Shape := ⟨4, ![32, 1, 2, 64]⟩
abbrev S32x2x64 : Shape := ⟨3, ![32, 2, 64]⟩
abbrev S16x2x4x64 : Shape := ⟨4, ![16, 2, 4, 64]⟩
abbrev S16x1x4x64 : Shape := ⟨4, ![16, 1, 4, 64]⟩
abbrev S16x4x64 : Shape := ⟨3, ![16, 4, 64]⟩
abbrev S8x2x8x64 : Shape := ⟨4, ![8, 2, 8, 64]⟩
abbrev S8x1x8x64 : Shape := ⟨4, ![8, 1, 8, 64]⟩
abbrev S8x8x64 : Shape := ⟨3, ![8, 8, 64]⟩
abbrev S4x2x16x64 : Shape := ⟨4, ![4, 2, 16, 64]⟩
abbrev S4x1x16x64 : Shape := ⟨4, ![4, 1, 16, 64]⟩
abbrev S4x16x64 : Shape := ⟨3, ![4, 16, 64]⟩
abbrev S2x2x32x64 : Shape := ⟨4, ![2, 2, 32, 64]⟩
abbrev S2x1x32x64 : Shape := ⟨4, ![2, 1, 32, 64]⟩
abbrev S2x32x64 : Shape := ⟨3, ![2, 32, 64]⟩
abbrev S1x2x64x64 : Shape := ⟨4, ![1, 2, 64, 64]⟩
abbrev S1x1x64x64 : Shape := ⟨4, ![1, 1, 64, 64]⟩
abbrev S1x64x64 : Shape := ⟨3, ![1, 64, 64]⟩
abbrev S1x128x64 : Shape := ⟨3, ![1, 128, 64]⟩
abbrev S1 : Shape := ⟨1, ![1]⟩
abbrev S2048x64 : Shape := ⟨2, ![2048, 64]⟩
abbrev S1024x64 : Shape := ⟨2, ![1024, 64]⟩
abbrev S1024x128 : Shape := ⟨2, ![1024, 128]⟩
abbrev S1024x1 : Shape := ⟨2, ![1024, 1]⟩
abbrev S1x128 : Shape := ⟨2, ![1, 128]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S16x2x32x128 : Shape := ⟨4, ![16, 2, 32, 128]⟩
abbrev S16x1x32x128 : Shape := ⟨4, ![16, 1, 32, 128]⟩
abbrev S16x32x128 : Shape := ⟨3, ![16, 32, 128]⟩
abbrev S32x2x16x128 : Shape := ⟨4, ![32, 2, 16, 128]⟩
abbrev S32x1x16x128 : Shape := ⟨4, ![32, 1, 16, 128]⟩
abbrev S32x16x128 : Shape := ⟨3, ![32, 16, 128]⟩
abbrev S64x2x8x128 : Shape := ⟨4, ![64, 2, 8, 128]⟩
abbrev S64x1x8x128 : Shape := ⟨4, ![64, 1, 8, 128]⟩
abbrev S64x8x128 : Shape := ⟨3, ![64, 8, 128]⟩
abbrev S128x2x4x128 : Shape := ⟨4, ![128, 2, 4, 128]⟩
abbrev S128x1x4x128 : Shape := ⟨4, ![128, 1, 4, 128]⟩
abbrev S128x4x128 : Shape := ⟨3, ![128, 4, 128]⟩
abbrev S256x2x2x128 : Shape := ⟨4, ![256, 2, 2, 128]⟩
abbrev S256x1x2x128 : Shape := ⟨4, ![256, 1, 2, 128]⟩
abbrev S256x2x128 : Shape := ⟨3, ![256, 2, 128]⟩
abbrev S512x2x1x128 : Shape := ⟨4, ![512, 2, 1, 128]⟩
abbrev S512x1x1x128 : Shape := ⟨4, ![512, 1, 1, 128]⟩
abbrev S512x1x128 : Shape := ⟨3, ![512, 1, 128]⟩
abbrev S2x2x256x128 : Shape := ⟨4, ![2, 2, 256, 128]⟩
abbrev S2x1x256x128 : Shape := ⟨4, ![2, 1, 256, 128]⟩
abbrev S2x256x128 : Shape := ⟨3, ![2, 256, 128]⟩
abbrev S1x2x512x128 : Shape := ⟨4, ![1, 2, 512, 128]⟩
abbrev S1x1x512x128 : Shape := ⟨4, ![1, 1, 512, 128]⟩
abbrev S1x512x128 : Shape := ⟨3, ![1, 512, 128]⟩
abbrev S1x2x64x128 : Shape := ⟨4, ![1, 2, 64, 128]⟩
abbrev S1x1x64x128 : Shape := ⟨4, ![1, 1, 64, 128]⟩
abbrev S1x64x128 : Shape := ⟨3, ![1, 64, 128]⟩
abbrev S2x2x32x128 : Shape := ⟨4, ![2, 2, 32, 128]⟩
abbrev S2x1x32x128 : Shape := ⟨4, ![2, 1, 32, 128]⟩
abbrev S2x32x128 : Shape := ⟨3, ![2, 32, 128]⟩
abbrev S4x2x16x128 : Shape := ⟨4, ![4, 2, 16, 128]⟩
abbrev S4x1x16x128 : Shape := ⟨4, ![4, 1, 16, 128]⟩
abbrev S4x16x128 : Shape := ⟨3, ![4, 16, 128]⟩
abbrev S8x2x8x128 : Shape := ⟨4, ![8, 2, 8, 128]⟩
abbrev S8x1x8x128 : Shape := ⟨4, ![8, 1, 8, 128]⟩
abbrev S8x8x128 : Shape := ⟨3, ![8, 8, 128]⟩
abbrev S16x2x4x128 : Shape := ⟨4, ![16, 2, 4, 128]⟩
abbrev S16x1x4x128 : Shape := ⟨4, ![16, 1, 4, 128]⟩
abbrev S16x4x128 : Shape := ⟨3, ![16, 4, 128]⟩
abbrev S32x2x2x128 : Shape := ⟨4, ![32, 2, 2, 128]⟩
abbrev S32x1x2x128 : Shape := ⟨4, ![32, 1, 2, 128]⟩
abbrev S32x2x128 : Shape := ⟨3, ![32, 2, 128]⟩
abbrev S64x2x1x128 : Shape := ⟨4, ![64, 2, 1, 128]⟩
abbrev S64x1x1x128 : Shape := ⟨4, ![64, 1, 1, 128]⟩
abbrev S64x1x128 : Shape := ⟨3, ![64, 1, 128]⟩

abbrev nBuf : Space → Nat
  | .hbm => 2
  | .vmem => 7
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S16x128x64, .f32⟩
  | .local _ .vmem, ⟨4, _⟩ => ⟨S512x128, .f32⟩
  | .local _ .vmem, ⟨5, _⟩ => ⟨S256x128, .f32⟩
  | .local _ .vmem, ⟨6, _⟩ => ⟨S128x128, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_21 : BitVec 32 := 1#32
  let v398 : BitVec 32 := Scalar.addi v2 c1_i32_21
  let c16_i32_22 : BitVec 32 := 16#32
  let v399 : BitVec 32 := Scalar.remsi v398 c16_i32_22
  let c1_i32_24 : BitVec 32 := 1#32
  let v400 : BitVec 32 := Scalar.muli v399 c1_i32_24
  let v401 : BitVec 32 := Scalar.addi c0_i32_25 v400
  v401.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_26 : BitVec 32 := 2#32
  let v402 : BitVec 32 := Scalar.addi v2 c2_i32_26
  let c16_i32_27 : BitVec 32 := 16#32
  let v403 : BitVec 32 := Scalar.remsi v402 c16_i32_27
  let c1_i32_29 : BitVec 32 := 1#32
  let v404 : BitVec 32 := Scalar.muli v403 c1_i32_29
  let v405 : BitVec 32 := Scalar.addi c0_i32_30 v404
  v405.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v406 : BitVec 32 := Scalar.addi v2 c3_i32
  let c16_i32_31 : BitVec 32 := 16#32
  let v407 : BitVec 32 := Scalar.remsi v406 c16_i32_31
  let c1_i32_33 : BitVec 32 := 1#32
  let v408 : BitVec 32 := Scalar.muli v407 c1_i32_33
  let v409 : BitVec 32 := Scalar.addi c0_i32_34 v408
  v409.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_35 : BitVec 32 := 4#32
  let v410 : BitVec 32 := Scalar.addi v2 c4_i32_35
  let c16_i32_36 : BitVec 32 := 16#32
  let v411 : BitVec 32 := Scalar.remsi v410 c16_i32_36
  let c1_i32_38 : BitVec 32 := 1#32
  let v412 : BitVec 32 := Scalar.muli v411 c1_i32_38
  let v413 : BitVec 32 := Scalar.addi c0_i32_39 v412
  v413.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v414 : BitVec 32 := Scalar.addi v2 c5_i32
  let c16_i32_40 : BitVec 32 := 16#32
  let v415 : BitVec 32 := Scalar.remsi v414 c16_i32_40
  let c1_i32_42 : BitVec 32 := 1#32
  let v416 : BitVec 32 := Scalar.muli v415 c1_i32_42
  let v417 : BitVec 32 := Scalar.addi c0_i32_43 v416
  v417.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v418 : BitVec 32 := Scalar.addi v2 c6_i32
  let c16_i32_44 : BitVec 32 := 16#32
  let v419 : BitVec 32 := Scalar.remsi v418 c16_i32_44
  let c1_i32_46 : BitVec 32 := 1#32
  let v420 : BitVec 32 := Scalar.muli v419 c1_i32_46
  let v421 : BitVec 32 := Scalar.addi c0_i32_47 v420
  v421.toNat
def k0_dev7 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v422 : BitVec 32 := Scalar.addi v2 c7_i32
  let c16_i32_48 : BitVec 32 := 16#32
  let v423 : BitVec 32 := Scalar.remsi v422 c16_i32_48
  let c1_i32_50 : BitVec 32 := 1#32
  let v424 : BitVec 32 := Scalar.muli v423 c1_i32_50
  let v425 : BitVec 32 := Scalar.addi c0_i32_51 v424
  v425.toNat
def k0_dev8 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_52 : BitVec 32 := 8#32
  let v426 : BitVec 32 := Scalar.addi v2 c8_i32_52
  let c16_i32_53 : BitVec 32 := 16#32
  let v427 : BitVec 32 := Scalar.remsi v426 c16_i32_53
  let c1_i32_55 : BitVec 32 := 1#32
  let v428 : BitVec 32 := Scalar.muli v427 c1_i32_55
  let v429 : BitVec 32 := Scalar.addi c0_i32_56 v428
  v429.toNat
def k0_dev9 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v430 : BitVec 32 := Scalar.addi v2 c9_i32
  let c16_i32_57 : BitVec 32 := 16#32
  let v431 : BitVec 32 := Scalar.remsi v430 c16_i32_57
  let c1_i32_59 : BitVec 32 := 1#32
  let v432 : BitVec 32 := Scalar.muli v431 c1_i32_59
  let v433 : BitVec 32 := Scalar.addi c0_i32_60 v432
  v433.toNat
def k0_dev10 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v434 : BitVec 32 := Scalar.addi v2 c10_i32
  let c16_i32_61 : BitVec 32 := 16#32
  let v435 : BitVec 32 := Scalar.remsi v434 c16_i32_61
  let c1_i32_63 : BitVec 32 := 1#32
  let v436 : BitVec 32 := Scalar.muli v435 c1_i32_63
  let v437 : BitVec 32 := Scalar.addi c0_i32_64 v436
  v437.toNat
def k0_dev11 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v438 : BitVec 32 := Scalar.addi v2 c11_i32
  let c16_i32_65 : BitVec 32 := 16#32
  let v439 : BitVec 32 := Scalar.remsi v438 c16_i32_65
  let c1_i32_67 : BitVec 32 := 1#32
  let v440 : BitVec 32 := Scalar.muli v439 c1_i32_67
  let v441 : BitVec 32 := Scalar.addi c0_i32_68 v440
  v441.toNat
def k0_dev12 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v442 : BitVec 32 := Scalar.addi v2 c12_i32
  let c16_i32_69 : BitVec 32 := 16#32
  let v443 : BitVec 32 := Scalar.remsi v442 c16_i32_69
  let c1_i32_71 : BitVec 32 := 1#32
  let v444 : BitVec 32 := Scalar.muli v443 c1_i32_71
  let v445 : BitVec 32 := Scalar.addi c0_i32_72 v444
  v445.toNat
def k0_dev13 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v446 : BitVec 32 := Scalar.addi v2 c13_i32
  let c16_i32_73 : BitVec 32 := 16#32
  let v447 : BitVec 32 := Scalar.remsi v446 c16_i32_73
  let c1_i32_75 : BitVec 32 := 1#32
  let v448 : BitVec 32 := Scalar.muli v447 c1_i32_75
  let v449 : BitVec 32 := Scalar.addi c0_i32_76 v448
  v449.toNat
def k0_dev14 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v450 : BitVec 32 := Scalar.addi v2 c14_i32
  let c16_i32_77 : BitVec 32 := 16#32
  let v451 : BitVec 32 := Scalar.remsi v450 c16_i32_77
  let c1_i32_79 : BitVec 32 := 1#32
  let v452 : BitVec 32 := Scalar.muli v451 c1_i32_79
  let v453 : BitVec 32 := Scalar.addi c0_i32_80 v452
  v453.toNat
def k0_dev15 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v454 : BitVec 32 := Scalar.addi v2 c15_i32
  let c16_i32_81 : BitVec 32 := 16#32
  let v455 : BitVec 32 := Scalar.remsi v454 c16_i32_81
  let c1_i32_83 : BitVec 32 := 1#32
  let v456 : BitVec 32 := Scalar.muli v455 c1_i32_83
  let v457 : BitVec 32 := Scalar.addi c0_i32_84 v456
  v457.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_86 : BitVec 32 := 0#32
  let c0_i32_87 : BitVec 32 := 0#32
  ![v2.toNat, 0, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev16 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_88 : BitVec 32 := 1#32
  let v460 : BitVec 32 := Scalar.addi v2 c1_i32_88
  let c16_i32_89 : BitVec 32 := 16#32
  let v461 : BitVec 32 := Scalar.remsi v460 c16_i32_89
  let c1_i32_91 : BitVec 32 := 1#32
  let v462 : BitVec 32 := Scalar.muli v461 c1_i32_91
  let v463 : BitVec 32 := Scalar.addi c0_i32_92 v462
  v463.toNat
def k0_dev17 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_95 : BitVec 32 := 2#32
  let v470 : BitVec 32 := Scalar.addi v2 c2_i32_95
  let c16_i32_96 : BitVec 32 := 16#32
  let v471 : BitVec 32 := Scalar.remsi v470 c16_i32_96
  let c1_i32_98 : BitVec 32 := 1#32
  let v472 : BitVec 32 := Scalar.muli v471 c1_i32_98
  let v473 : BitVec 32 := Scalar.addi c0_i32_99 v472
  v473.toNat
def k0_dev18 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_102 : BitVec 32 := 3#32
  let v480 : BitVec 32 := Scalar.addi v2 c3_i32_102
  let c16_i32_103 : BitVec 32 := 16#32
  let v481 : BitVec 32 := Scalar.remsi v480 c16_i32_103
  let c1_i32_105 : BitVec 32 := 1#32
  let v482 : BitVec 32 := Scalar.muli v481 c1_i32_105
  let v483 : BitVec 32 := Scalar.addi c0_i32_106 v482
  v483.toNat
def k0_dev19 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_109 : BitVec 32 := 4#32
  let v490 : BitVec 32 := Scalar.addi v2 c4_i32_109
  let c16_i32_110 : BitVec 32 := 16#32
  let v491 : BitVec 32 := Scalar.remsi v490 c16_i32_110
  let c1_i32_112 : BitVec 32 := 1#32
  let v492 : BitVec 32 := Scalar.muli v491 c1_i32_112
  let v493 : BitVec 32 := Scalar.addi c0_i32_113 v492
  v493.toNat
def k0_dev20 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_116 : BitVec 32 := 5#32
  let v500 : BitVec 32 := Scalar.addi v2 c5_i32_116
  let c16_i32_117 : BitVec 32 := 16#32
  let v501 : BitVec 32 := Scalar.remsi v500 c16_i32_117
  let c1_i32_119 : BitVec 32 := 1#32
  let v502 : BitVec 32 := Scalar.muli v501 c1_i32_119
  let v503 : BitVec 32 := Scalar.addi c0_i32_120 v502
  v503.toNat
def k0_dev21 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_123 : BitVec 32 := 6#32
  let v510 : BitVec 32 := Scalar.addi v2 c6_i32_123
  let c16_i32_124 : BitVec 32 := 16#32
  let v511 : BitVec 32 := Scalar.remsi v510 c16_i32_124
  let c1_i32_126 : BitVec 32 := 1#32
  let v512 : BitVec 32 := Scalar.muli v511 c1_i32_126
  let v513 : BitVec 32 := Scalar.addi c0_i32_127 v512
  v513.toNat
def k0_dev22 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_130 : BitVec 32 := 7#32
  let v520 : BitVec 32 := Scalar.addi v2 c7_i32_130
  let c16_i32_131 : BitVec 32 := 16#32
  let v521 : BitVec 32 := Scalar.remsi v520 c16_i32_131
  let c1_i32_133 : BitVec 32 := 1#32
  let v522 : BitVec 32 := Scalar.muli v521 c1_i32_133
  let v523 : BitVec 32 := Scalar.addi c0_i32_134 v522
  v523.toNat
def k0_dev23 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_137 : BitVec 32 := 8#32
  let v530 : BitVec 32 := Scalar.addi v2 c8_i32_137
  let c16_i32_138 : BitVec 32 := 16#32
  let v531 : BitVec 32 := Scalar.remsi v530 c16_i32_138
  let c1_i32_140 : BitVec 32 := 1#32
  let v532 : BitVec 32 := Scalar.muli v531 c1_i32_140
  let v533 : BitVec 32 := Scalar.addi c0_i32_141 v532
  v533.toNat
def k0_dev24 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_144 : BitVec 32 := 9#32
  let v540 : BitVec 32 := Scalar.addi v2 c9_i32_144
  let c16_i32_145 : BitVec 32 := 16#32
  let v541 : BitVec 32 := Scalar.remsi v540 c16_i32_145
  let c1_i32_147 : BitVec 32 := 1#32
  let v542 : BitVec 32 := Scalar.muli v541 c1_i32_147
  let v543 : BitVec 32 := Scalar.addi c0_i32_148 v542
  v543.toNat
def k0_dev25 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_151 : BitVec 32 := 10#32
  let v550 : BitVec 32 := Scalar.addi v2 c10_i32_151
  let c16_i32_152 : BitVec 32 := 16#32
  let v551 : BitVec 32 := Scalar.remsi v550 c16_i32_152
  let c1_i32_154 : BitVec 32 := 1#32
  let v552 : BitVec 32 := Scalar.muli v551 c1_i32_154
  let v553 : BitVec 32 := Scalar.addi c0_i32_155 v552
  v553.toNat
def k0_dev26 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_158 : BitVec 32 := 11#32
  let v560 : BitVec 32 := Scalar.addi v2 c11_i32_158
  let c16_i32_159 : BitVec 32 := 16#32
  let v561 : BitVec 32 := Scalar.remsi v560 c16_i32_159
  let c1_i32_161 : BitVec 32 := 1#32
  let v562 : BitVec 32 := Scalar.muli v561 c1_i32_161
  let v563 : BitVec 32 := Scalar.addi c0_i32_162 v562
  v563.toNat
def k0_dev27 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_165 : BitVec 32 := 12#32
  let v570 : BitVec 32 := Scalar.addi v2 c12_i32_165
  let c16_i32_166 : BitVec 32 := 16#32
  let v571 : BitVec 32 := Scalar.remsi v570 c16_i32_166
  let c1_i32_168 : BitVec 32 := 1#32
  let v572 : BitVec 32 := Scalar.muli v571 c1_i32_168
  let v573 : BitVec 32 := Scalar.addi c0_i32_169 v572
  v573.toNat
def k0_dev28 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_172 : BitVec 32 := 13#32
  let v580 : BitVec 32 := Scalar.addi v2 c13_i32_172
  let c16_i32_173 : BitVec 32 := 16#32
  let v581 : BitVec 32 := Scalar.remsi v580 c16_i32_173
  let c1_i32_175 : BitVec 32 := 1#32
  let v582 : BitVec 32 := Scalar.muli v581 c1_i32_175
  let v583 : BitVec 32 := Scalar.addi c0_i32_176 v582
  v583.toNat
def k0_dev29 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_179 : BitVec 32 := 14#32
  let v590 : BitVec 32 := Scalar.addi v2 c14_i32_179
  let c16_i32_180 : BitVec 32 := 16#32
  let v591 : BitVec 32 := Scalar.remsi v590 c16_i32_180
  let c1_i32_182 : BitVec 32 := 1#32
  let v592 : BitVec 32 := Scalar.muli v591 c1_i32_182
  let v593 : BitVec 32 := Scalar.addi c0_i32_183 v592
  v593.toNat
def k0_dev30 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_186 : BitVec 32 := 15#32
  let v600 : BitVec 32 := Scalar.addi v2 c15_i32_186
  let c16_i32_187 : BitVec 32 := 16#32
  let v601 : BitVec 32 := Scalar.remsi v600 c16_i32_187
  let c1_i32_189 : BitVec 32 := 1#32
  let v602 : BitVec 32 := Scalar.muli v601 c1_i32_189
  let v603 : BitVec 32 := Scalar.addi c0_i32_190 v602
  v603.toNat
def k0_off3 (d0 : Dev nD) (c1_i32_195 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v612 : BitVec 32 := Scalar.addi v2 c1_i32_195
  let c16_i32_196 : BitVec 32 := 16#32
  let v613 : BitVec 32 := Scalar.remsi v612 c16_i32_196
  ![v613.toNat]
def k0_off4 (d0 : Dev nD) (c1_i32_195 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v612 : BitVec 32 := Scalar.addi v2 c1_i32_195
  let c16_i32_196 : BitVec 32 := 16#32
  let v613 : BitVec 32 := Scalar.remsi v612 c16_i32_196
  let c0_i32_200 : BitVec 32 := 0#32
  let c0_i32_201 : BitVec 32 := 0#32
  ![v613.toNat, 0, 0]
abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x64 : Shape := ⟨2, ![2048, 64]⟩

abbrev nBuf : Space → Nat
  | .hbm => 2
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Cells.lean ====
/- The semaphores, buffers and device arithmetic of the sixteen-device bitonic sort.

   Every device owns one barrier semaphore, fifteen send semaphores, sixteen receive semaphores and one semaphore for its
   local copy. Its send buffer is read sixteen times at once (one local copy, fifteen transfers), so it is cut into sixteen
   read shares; its gather buffer is cut into sixteen slots, slot `s` holding the block of device `s`. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost algebra: the library's rounds, and ours with the paying device as the name of a duty -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Which device a shift names -/

set_option backward.proofsInPublic true in
/-- The device `j + 1` places after `c`, around the sixteen. -/
def sh (c : Dev nD) (j : Fin 15) : Dev nD := ⟨(c.val + (j.val + 1)) % 16, Nat.mod_lt _ (by decide)⟩

theorem sh_injective (c : Dev nD) : Function.Injective (sh c) := by revert c; decide
theorem sh_ne (c : Dev nD) (j : Fin 15) : sh c j ≠ c := by revert c j; decide
theorem image_sh (c : Dev nD) : Finset.univ.image (sh c) = Finset.univ.erase c := by revert c; decide

/-- The fifteen shifts that are at least `a`, and those below it. -/
def ge (a : ℕ) : Finset (Fin 15) := Finset.univ.filter fun j => a ≤ j.val
def lt (a : ℕ) : Finset (Fin 15) := Finset.univ.filter fun j => j.val < a

theorem ge_zero : ge 0 = Finset.univ := by decide
theorem ge_end : ge 15 = ∅ := by decide
theorem lt_zero : lt 0 = ∅ := by decide
theorem lt_end : lt 15 = Finset.univ := by decide
theorem ge_step (j : Fin 15) : ge j.val = insert j (ge (j.val + 1)) := by revert j; decide
theorem lt_step (j : Fin 15) : lt (j.val + 1) = insert j (lt j.val) := by revert j; decide
theorem not_mem_ge (j : Fin 15) : j ∉ ge (j.val + 1) := by revert j; decide
theorem not_mem_lt (j : Fin 15) : j ∉ lt j.val := by revert j; decide

/-! ## The buffers -/

abbrev xM : Memref sig .tc .vmem S128x64 .f32 := Memref.whole cc0_stg0_0
abbrev oM : Memref sig .tc .vmem S128x64 .f32 := Memref.whole cc0_stg1_0
abbrev sM : Memref sig .tc .vmem S128x64 .f32 := Memref.whole cc0_scratch0
abbrev gM : Memref sig .tc .vmem S16x128x64 .f32 := Memref.whole cc0_scratch1

theorem slot_inb (s : Dev nD) : ∀ a, (![s.val, 0, 0] : Fin 3 → ℕ) a + S1x128x64.size a ≤ S16x128x64.size a := by
  revert s; decide

/-- The rectangle of slot `s`, and the slot as the kernel names it. -/
abbrev slotR (s : Dev nD) : Rect S16x128x64 := Rect.unit (s := S16x128x64) ![s.val, 0, 0] S1x128x64.size (slot_inb s)
abbrev slotM (s : Dev nD) : Memref sig .tc .vmem S128x64 .f32 :=
  (gM.slice (slotR s) (fun _ => rfl)).squeeze S128x64 squeezes_S1x128x64_S128x64

/-- A slot named through an offset that is the slot's. -/
theorem slotM_of {off : Fin 3 → ℕ} (s : Dev nD) (h : off = ![s.val, 0, 0]) (inb) :
    (gM.slice (Rect.unit (s := S16x128x64) off S1x128x64.size inb) (fun _ => rfl)).squeeze S128x64 squeezes_S1x128x64_S128x64 = slotM s := by
  subst h; rfl

theorem mem_slot (s : Dev nD) (i : S16x128x64.Idx) : i ∈ (slotM s).view.set ↔ (i 0).val = s.val := by
  rw [show (slotM s).view.set = (slotR s).set from by
    simp only [Memref.view_squeeze, View.set_reshape]; exact View.set_slice_whole _ _]
  rw [Rect.mem_set_unit]
  constructor
  · intro h
    have h0 := h 0
    have e1 : (![s.val, 0, 0] : Fin 3 → ℕ) 0 = s.val := rfl
    have e2 : S1x128x64.size 0 = 1 := rfl
    rw [e1, e2] at h0
    omega
  · intro h a
    match a with
    | ⟨0, _⟩ => exact ⟨Nat.le_of_eq h.symm, by rw [show i ⟨0, _⟩ = i 0 from rfl]; show (i 0).val < s.val + 1; omega⟩
    | ⟨1, _⟩ => exact ⟨Nat.zero_le _, Nat.lt_of_lt_of_eq (i 1).isLt rfl⟩
    | ⟨2, _⟩ => exact ⟨Nat.zero_le _, Nat.lt_of_lt_of_eq (i 2).isLt rfl⟩

theorem slots_cover : (Finset.univ : Finset (Dev nD)).biUnion (fun s => (slotM s).view.set) = (Finset.univ : Finset S16x128x64.Idx) := by
  ext i
  rw [Finset.mem_biUnion]
  exact ⟨fun _ => Finset.mem_univ _, fun _ => ⟨⟨(i 0).val, (i 0).isLt⟩, Finset.mem_univ _, (mem_slot _ i).mpr rfl⟩⟩

theorem slots_disjoint : ∀ s ∈ (Finset.univ : Finset (Dev nD)), ∀ t ∈ (Finset.univ : Finset (Dev nD)), s ≠ t →
    Disjoint (slotM s).view.set (slotM t).view.set := by
  intro s _ t _ hst
  rw [Finset.disjoint_left]
  intro i hi hi'
  exact hst (Fin.ext (((mem_slot s i).mp hi).symm.trans ((mem_slot t i).mp hi')))

/-- Where entry `(a, b)` of slot `s` lies in the gather buffer. -/
theorem slot_emb (s : Dev nD) (x : S128x64.Idx) :
    (slotM s).view.emb x = (fun | ⟨0, _⟩ => ⟨s.val, s.isLt⟩ | ⟨1, _⟩ => ⟨(x 0).val, (x 0).isLt⟩ | ⟨2, _⟩ => ⟨(x 1).val, (x 1).isLt⟩ : S16x128x64.Idx) := by
  have h1 : Shape.reshapeEquiv (s := S1x128x64) (s' := S128x64) squeezes_S1x128x64_S128x64.numel_eq x
      = (fun | ⟨0, _⟩ => ⟨0, Nat.one_pos⟩ | ⟨1, _⟩ => ⟨(x 0).val, (x 0).isLt⟩ | ⟨2, _⟩ => ⟨(x 1).val, (x 1).isLt⟩ : S1x128x64.Idx) := by
    apply Shape.reshapeEquiv_eq_of_rowMajor
    rw [Shape.rowMajor_val_three, Shape.rowMajor_val_two]
    show (0 * 128 + (x 0).val) * 64 + (x 1).val = (x 0).val * 64 + (x 1).val
    omega
  have h2 : (slotM s).view.emb x = (slotR s).emb (Shape.reshapeEquiv (s := S1x128x64) (s' := S128x64) squeezes_S1x128x64_S128x64.numel_eq x) := rfl
  rw [h2, h1]
  funext a
  refine Fin.ext ?_
  match a with
  | ⟨0, _⟩ => show s.val + 0 * 1 = s.val; omega
  | ⟨1, _⟩ => show 0 + 1 * (x 0).val = (x 0).val; omega
  | ⟨2, _⟩ => show 0 + 1 * (x 1).val = (x 1).val; omega

/-! ## The semaphores and cells -/

/-- The runtime's barrier semaphore of collective id 0. -/
abbrev barS : Sem sig := (SemArray.scalar (sig.barrier 0 rfl) : Sems sig S_).sem
abbrev sendS (j : Fin 15) : DmaSem sig := ⟨j.val + 2, by have := j.isLt; show j.val + 2 < 34; omega⟩
abbrev recvS (s : Dev nD) : DmaSem sig := ⟨s.val + 17, by have h : s.val < 16 := s.isLt; show s.val + 17 < 34; omega⟩
abbrev copyS : DmaSem sig := ⟨33, by decide⟩

abbrev barCell (c : Dev nD) : GSem nD τ sig := ((c : Thread nD τ), .reg barS)
abbrev sendCell (c : Dev nD) (j : Fin 15) : GSem nD τ sig := ((c : Thread nD τ), .dma (sendS j))
abbrev recvCell (c s : Dev nD) : GSem nD τ sig := ((c : Thread nD τ), .dma (recvS s))
abbrev copyCell (c : Dev nD) : GSem nD τ sig := ((c : Thread nD τ), .dma copyS)

/-- The kernel's own semaphores: sends, receives, the copy. With the barrier's: all it uses. -/
abbrev KO : Type := Fin 15 ⊕ (Dev nD ⊕ Unit)
abbrev KC : Type := Unit ⊕ KO
def osem : KO → SemLoc sig
  | .inl j => .dma (sendS j)
  | .inr (.inl s) => .dma (recvS s)
  | .inr (.inr _) => .dma copyS
def csem : KC → SemLoc sig
  | .inl _ => .reg barS
  | .inr k => osem k
abbrev kcell (ck : Dev nD × KC) : GSem nD τ sig := ((ck.1 : Thread nD τ), csem ck.2)

theorem ownSemFacts : Pipeline.OwnSemFacts cfg0.spec osem := by decide
theorem csem_injective : Function.Injective csem := by decide

/-- The send semaphore the kernel takes at position `j`. -/
theorem sendSem_eq (j : Fin 15) (inb) :
    (((cc0_scratch5 : DmaSems sig S15).slice (Rect.unit (s := S15) ![j.val] S1.size inb)).squeeze S_ squeezes_S1_S_).sem = sendS j := by
  revert inb; revert j; decide

/-- The receive semaphore it takes through an offset that is device `s`'s. -/
theorem recvSem_eq {off : Fin 1 → ℕ} (s : Dev nD) (h : off = ![s.val]) (inb) :
    (((cc0_scratch6 : DmaSems sig S16).slice (Rect.unit (s := S16) off S1.size inb)).squeeze S_ squeezes_S1_S_).sem = recvS s := by
  subst h; revert inb; revert s; decide

theorem copySem_eq : (cc0_scratch7 : DmaSems sig S_).sem = copyS := by decide

/-- What one block's transfer credits. -/
abbrev N : ℕ := (sM : Memref sig .tc .vmem S128x64 .f32).view.dmaCredit
theorem N_pos : 0 < N := View.dmaCredit_pos _ (by decide)

end Cert.SortProof

end
-- ==== Proof.Schedule.lean ====
/- What the buffers hold, who pays which semaphore what, and what everyone owes at launch.

   One round. A device's barrier semaphore is paid one unit by each of the other fifteen, and each of them hands over, with
   its unit, the slot of ITS gather buffer that this device will fill. A receive semaphore `s` is paid by device `s` and hands
   over the slot filled with that device's sorted block; a send semaphore, and the copy's, give back the read share. -/
module

public import proofs.«01_k».proof.Proof.Cells

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

local notation "𝕄" => MT nD τ sig Unit (Elt F) ℕ UU ℕ

/-! ## The values -/

/-- The device's own number as the program computes it, and whether that number is odd. -/
def myId (c : Dev nD) : BitVec 32 := Scalar.remsi (Scalar.divsi (Dev.word c) 1#32) 16#32
def isOdd (c : Dev nD) : BitVec 1 := Scalar.cmpi .eq (Scalar.remsi (myId c) 2#32) 1#32
/-- The row numbers of a block, the lane numbers of the packed array. -/
def rowIx : IVec S128x1 32 := iota .tc S128x1 32 [0] iota_S128x1_d0_w32
def laneIx : IVec S1x128 32 := iota .tc S1x128 32 [1] iota_S1x128_d1_w32

/-- A device's block sorted: what it puts into its send buffer. -/
def localOut (c : Dev nD) (x : FVec F S128x64 .f32) : FVec F S128x64 .f32 :=
  let v37 := k0_pay2
  let v44 := k0_pay3 c x
  let v69 := k0_pay4 rowIx
  let v100 := k0_pay6 rowIx v37 v44
  let v101 := k0_pay7 rowIx v37 v44
  let v112 := k0_pay8 rowIx
  let v154 := k0_pay10 rowIx v69 v100 v101
  let v156 := k0_pay11 rowIx v69 v100 v101
  let v158 := k0_pay12 rowIx v69 v100 v101
  let v166 := k0_pay13 rowIx
  let v215 := k0_pay14 rowIx v112 v154 v156 v158
  let v231 := k0_pay15 rowIx
  let v271 := k0_pay16 rowIx v166 v215
  let v272 := k0_pay17 rowIx v166 v215
  let v327 := k0_pay19 rowIx v231 v271 v272
  let v329 := k0_pay20 rowIx v231 v271 v272
  k0_pay22 (isOdd c) (k0_pay21 v327 v329)

/-- The lane mask of the packed array's second half. -/
def upperLanes : IVec S1x128 1 := k0_pay27 laneIx

/-- The two arrays from which the last merge's lower and upper halves are formed, out of the gathered blocks. -/
def beforeLo (g : FVec F S16x128x64 .f32) : FVec F S128x1x4x128 .f32 × FVec F S128x1x4x128 .f32 :=
  let v796 := k0_pay23 g
  let v802 := k0_pay24
  let v804 := k0_pay25
  let v806 := k0_pay26 v804 0#32
  let v860 := k0_pay29 v796 v802
  let v862 := k0_pay30 v796 v802
  let v919 := k0_pay31 v802 v806 v860 v862
  let v921 := k0_pay32 v802 v806 v860 v862
  let v980 := k0_pay36 v919 v921
  let v981 := k0_pay37 v919 v921
  let v1039 := k0_pay39 v806 upperLanes v980 v981
  let v1040 := k0_pay40 v806 upperLanes v980 v981
  (k0_pay44 v1039 v1040, k0_pay45 v1039 v1040)

/-- The three halvings of the packed array towards the device's own 128 rows. -/
def half512 (c : Dev nD) (g : FVec F S16x128x64 .f32) : FVec F S512x128 .f32 :=
  if c.val % 8 < 4 then k0_pay47 upperLanes (beforeLo g).1 (beforeLo g).2 else k0_pay48 upperLanes (beforeLo g).1 (beforeLo g).2
def half256 (c : Dev nD) (w : FVec F S512x128 .f32) : FVec F S256x128 .f32 :=
  if c.val % 4 < 2 then k0_pay49 w else k0_pay50 w
def half128 (c : Dev nD) (w : FVec F S256x128 .f32) : FVec F S128x128 .f32 :=
  if c.val % 2 < 1 then k0_pay51 w else k0_pay52 w
/-- The last seven exchanges and the device's lanes. -/
def lastOut (c : Dev nD) (w : FVec F S128x128 .f32) : FVec F S128x64 .f32 :=
  if c.val < 8 then k0_pay56 (k0_pay53 w) (k0_pay54 w) else k0_pay1 (k0_pay55 (k0_pay53 w) (k0_pay54 w))
/-- A device's result out of the gathered blocks. -/
def mergeOut (c : Dev nD) (g : FVec F S16x128x64 .f32) : FVec F S128x64 .f32 :=
  lastOut c (half128 c (half256 c (half512 c g)))

/-- The program's branch conditions, in turn. -/
theorem cond512 (c : Dev nD) :
    Scalar.cmpi .ne (Scalar.extui (Scalar.cmpi .eq (Scalar.andi (Scalar.muli (Scalar.remsi (myId c) 8#32) 128#32) 512#32) 0#32) : BitVec 32) 0#32 = 1#1 ↔ c.val % 8 < 4 := by
  revert c; decide
theorem cond512' (c : Dev nD) :
    Scalar.cmpi .ne (Scalar.extui (Scalar.cmpi .ne (Scalar.andi (Scalar.muli (Scalar.remsi (myId c) 8#32) 128#32) 512#32) 0#32) : BitVec 32) 0#32 = 1#1 ↔ ¬ c.val % 8 < 4 := by
  revert c; decide
theorem cond256 (c : Dev nD) :
    Scalar.cmpi .ne (Scalar.extui (Scalar.cmpi .eq (Scalar.andi (Scalar.muli (Scalar.remsi (myId c) 8#32) 128#32) 256#32) 0#32) : BitVec 32) 0#32 = 1#1 ↔ c.val % 4 < 2 := by
  revert c; decide
theorem cond256' (c : Dev nD) :
    Scalar.cmpi .ne (Scalar.extui (Scalar.cmpi .ne (Scalar.andi (Scalar.muli (Scalar.remsi (myId c) 8#32) 128#32) 256#32) 0#32) : BitVec 32) 0#32 = 1#1 ↔ ¬ c.val % 4 < 2 := by
  revert c; decide
theorem cond128 (c : Dev nD) :
    Scalar.cmpi .ne (Scalar.extui (Scalar.cmpi .eq (Scalar.andi (Scalar.muli (Scalar.remsi (myId c) 8#32) 128#32) 128#32) 0#32) : BitVec 32) 0#32 = 1#1 ↔ c.val % 2 < 1 := by
  revert c; decide
theorem cond128' (c : Dev nD) :
    Scalar.cmpi .ne (Scalar.extui (Scalar.cmpi .ne (Scalar.andi (Scalar.muli (Scalar.remsi (myId c) 8#32) 128#32) 128#32) 0#32) : BitVec 32) 0#32 = 1#1 ↔ ¬ c.val % 2 < 1 := by
  revert c; decide
theorem condOut (c : Dev nD) :
    Scalar.cmpi .ne (Scalar.extui (Scalar.cmpi .slt (myId c) 8#32) : BitVec 32) 0#32 = 1#1 ↔ c.val < 8 := by
  revert c; decide
theorem condOut' (c : Dev nD) :
    Scalar.cmpi .ne (Scalar.extui (Scalar.cmpi .sge (myId c) 8#32) : BitVec 32) 0#32 = 1#1 ↔ ¬ c.val < 8 := by
  revert c; decide

variable (m : (ℓ : Loc nD τ sig) → Buf (Elt F) ℓ)

/-- Device `c`'s block of the argument, as its staging buffer holds it. -/
def xstg (c : Dev nD) : (cc0_stg0_0 : Ref sig .tc).ty.Contents (Elt F) :=
  (win0_0.blk (0 : Fin 1)).view.read (Elt F) (m ((c : Thread nD τ).loc main_arg0))
/-- What device `c` sends. -/
def sent (c : Dev nD) : (cc0_scratch0 : Ref sig .tc).ty.Contents (Elt F) := localOut c (xstg m c)
/-- What every device's gather buffer holds in the end: block after block. -/
def gath : (cc0_scratch1 : Ref sig .tc).ty.Contents (Elt F) := fun i : S16x128x64.Idx =>
  sent m ⟨(i 0).val, (i 0).isLt⟩ (fun | ⟨0, _⟩ => ⟨(i 1).val, (i 1).isLt⟩ | ⟨1, _⟩ => ⟨(i 2).val, (i 2).isLt⟩ : S128x64.Idx)
/-- Device `c`'s result. -/
def outAt (c : Dev nD) : (cc0_stg1_0 : Ref sig .tc).ty.Contents (Elt F) := mergeOut c (gath m)

omit [FloatOps F] in
theorem write_slot_emb (s : Dev nD) (fd : (cc0_scratch1 : Ref sig .tc).ty.Contents (Elt F)) (w : S128x64.Idx → Elt F .f32) (x : S128x64.Idx) :
    (slotM s).view.write (Elt F) fd w Finset.univ ((slotM s).view.emb x) = w x :=
  View.write_emb_of_mem (v := (slotM s).view) fd w (Finset.mem_univ x)

theorem gath_slot_emb (s : Dev nD) (x : S128x64.Idx) : gath m ((slotM s).view.emb x) = sent m s x := by
  rw [slot_emb]
  refine congrArg (sent m s) (funext fun a => ?_)
  match a with
  | ⟨0, _⟩ => rfl
  | ⟨1, _⟩ => rfl

/-- A slot written with its device's block agrees, on the slot, with the gathered contents. -/
theorem landed_slot (s : Dev nD) (fd : (cc0_scratch1 : Ref sig .tc).ty.Contents (Elt F)) :
    ∀ i ∈ (slotM s).view.set, (slotM s).view.write (Elt F) fd (sM.view.read (Elt F) (sent m s)) Finset.univ i = gath m i := by
  intro i hi
  obtain ⟨x, -, rfl⟩ := Finset.mem_map.mp hi
  rw [write_slot_emb, gath_slot_emb]
  rfl

/-! ## The assertions that change hands -/

/-- Slot `s` of device `c`'s gather buffer, holding `f`. -/
def slotPts (c s : Dev nD) (f : Buf (Elt F) ((slotM s).view.loc (c : Thread nD τ))) : sProp 𝕄 :=
  (slotM s).view.loc (c : Thread nD τ) ↦[(slotM s).view.set]{fullShare} f
/-- A sixteenth of device `c`'s filled send buffer. -/
def sendPts (c : Dev nD) (i : Fin (2 ^ 4)) : sProp 𝕄 :=
  sM.view.loc (c : Thread nD τ) ↦[sM.view.set]{leaf 4 fullShare i} (sent m c)
/-- The share the `j`-th transfer reads through. The local copy reads through share 0. -/
def shr (j : Fin 15) : Fin (2 ^ 4) := ⟨j.val + 1, by have := j.isLt; show j.val + 1 < 16; omega⟩

omit [FloatOps F] in
instance slotPts_storable (c s : Dev nD) (f) : BI.Storable (upEmb : UEmb _ 𝕄) (slotPts (F := F) c s f) := by unfold slotPts; infer_instance
instance sendPts_storable (c : Dev nD) (i) : BI.Storable (upEmb : UEmb _ 𝕄) (sendPts (F := F) m c i) := by unfold sendPts; infer_instance

/-- What a DMA semaphore's round hands its device. -/
def dmaPay (c : Dev nD) (q : ℕ) : sProp 𝕄 :=
  if q < 17 then sendPts m c ⟨(q - 1) % 16, Nat.mod_lt _ (by decide)⟩
  else if q < 33 then slotPts c ⟨(q - 17) % 16, Nat.mod_lt _ (by decide)⟩ (gath m)
  else iprop(slotPts c c (gath m) ∗ sendPts m c 0)

def payloadAt (c : Dev nD) (sm : SemLoc sig) (d : Dev nD) : sProp 𝕄 :=
  match sm with
  | .reg _ => iprop(∃ f, slotPts d c f)
  | .dma q => dmaPay m c q.val

/-- Who pays a semaphore of device `c`. -/
def dmaDuty (c : Dev nD) (q : ℕ) : Finset (Dev nD) :=
  if q < 2 then ∅ else if q < 17 then {c} else if q < 33 then
    (if q = c.val + 17 then ∅ else {⟨(q - 17) % 16, Nat.mod_lt _ (by decide)⟩}) else {c}
def dutyOf (c : Dev nD) (sm : SemLoc sig) : Finset (Dev nD) :=
  match sm with
  | .reg _ => Finset.univ.erase c
  | .dma q => dmaDuty c q.val

def amountAt (sm : SemLoc sig) : ℕ :=
  match sm with
  | .reg _ => 1
  | .dma _ => N

/-- One round, round 0. -/
def sortRd : Rounds.Schedule (GSem nD τ sig) (Dev nD) 𝕄 where
  duties g r := if r = 0 then dutyOf g.1.1 g.2 else ∅
  unitless _ := False
  amount g _ _ := amountAt g.2
  payload g _ d := payloadAt m g.1.1 g.2 d
  amount_pos g _ _ _ := by
    rcases g with ⟨t, sm | sm⟩
    · exact Nat.one_pos
    · exact N_pos

instance sortRd_payload_storable (g : GSem nD τ sig) (r : ℕ) (d : Dev nD) :
    BI.Storable (upEmb : UEmb _ 𝕄) ((sortRd (F := F) m).payload g r d) := by
  show BI.Storable upEmb (payloadAt m g.1.1 g.2 d)
  unfold payloadAt
  split
  · infer_instance
  · unfold dmaPay
    (repeat' split) <;> infer_instance

section Sched
variable (c : Dev nD)

theorem duties_bar : (sortRd (F := F) m).duties (barCell c) 0 = Finset.univ.erase c := rfl
theorem duties_send (j : Fin 15) : (sortRd (F := F) m).duties (sendCell c j) 0 = {c} := by
  show dmaDuty c (j.val + 2) = {c}
  unfold dmaDuty
  rw [if_neg (by omega), if_pos (by have := j.isLt; omega)]
theorem duties_recv (s : Dev nD) (h : s ≠ c) : (sortRd (F := F) m).duties (recvCell c s) 0 = {s} := by
  have hs : s.val < 16 := s.isLt
  show dmaDuty c (s.val + 17) = {s}
  unfold dmaDuty
  rw [if_neg (by omega), if_neg (by omega), if_pos (by omega), if_neg (fun h' => h (Fin.ext (by omega)))]
  refine congrArg _ (Fin.ext ?_)
  show (s.val + 17 - 17) % 16 = s.val
  omega
theorem duties_recv_self : (sortRd (F := F) m).duties (recvCell c c) 0 = ∅ := by
  have hs : c.val < 16 := c.isLt
  show dmaDuty c (c.val + 17) = ∅
  unfold dmaDuty
  rw [if_neg (by omega), if_neg (by omega), if_pos (by omega), if_pos rfl]
theorem duties_copy : (sortRd (F := F) m).duties (copyCell c) 0 = {c} := rfl
theorem duties_later (g : GSem nD τ sig) : ∀ r, 1 ≤ r → (sortRd (F := F) m).duties g r = ∅ :=
  fun r hr => if_neg (by omega)
theorem duties_recv_self_all : ∀ r, 0 ≤ r → (sortRd (F := F) m).duties (recvCell c c) r = ∅ := fun r _ => by
  rcases Nat.eq_zero_or_pos r with rfl | hr
  · exact duties_recv_self m c
  · exact duties_later m _ r hr

theorem expect_bar : (sortRd (F := F) m).expect (barCell c) 0 = 15 := by
  unfold Schedule.expect Schedule.amountOf
  rw [duties_bar, Finset.sum_congr rfl fun d _ => (show (sortRd (F := F) m).amount (barCell c) 0 d = 1 from rfl), Finset.sum_const,
    Finset.card_erase_of_mem (Finset.mem_univ c), Finset.card_univ, Fintype.card_fin, smul_eq_mul]
  rfl
theorem expect_send (j : Fin 15) : (sortRd (F := F) m).expect (sendCell c j) 0 = N := by
  unfold Schedule.expect Schedule.amountOf; rw [duties_send, Finset.sum_singleton]; rfl
theorem expect_recv (s : Dev nD) (h : s ≠ c) : (sortRd (F := F) m).expect (recvCell c s) 0 = N := by
  unfold Schedule.expect Schedule.amountOf; rw [duties_recv m c s h, Finset.sum_singleton]; rfl
theorem expect_copy : (sortRd (F := F) m).expect (copyCell c) 0 = N := by
  unfold Schedule.expect Schedule.amountOf; rw [duties_copy, Finset.sum_singleton]; rfl

theorem payload_bar (d : Dev nD) : (sortRd (F := F) m).payload (barCell c) 0 d = iprop(∃ f, slotPts d c f) := rfl
theorem payload_send (j : Fin 15) (d : Dev nD) : (sortRd (F := F) m).payload (sendCell c j) 0 d = sendPts m c (shr j) := by
  show dmaPay m c (j.val + 2) = _
  unfold dmaPay
  rw [if_pos (by have := j.isLt; omega)]
  refine congrArg _ (Fin.ext ?_)
  show (j.val + 2 - 1) % 16 = j.val + 1
  have := j.isLt; omega
theorem payload_recv (s d : Dev nD) : (sortRd (F := F) m).payload (recvCell c s) 0 d = slotPts c s (gath m) := by
  have hs : s.val < 16 := s.isLt
  show dmaPay m c (s.val + 17) = _
  unfold dmaPay
  rw [if_neg (by omega), if_pos (by omega)]
  have e : (⟨(s.val + 17 - 17) % 16, Nat.mod_lt _ (by decide)⟩ : Dev nD) = s := Fin.ext (by show (s.val + 17 - 17) % 16 = s.val; omega)
  rw [e]
theorem payload_copy (d : Dev nD) : (sortRd (F := F) m).payload (copyCell c) 0 d = iprop(slotPts c c (gath m) ∗ sendPts m c 0) := rfl

/-- The whole of each cell's round, as its owner takes it. -/
theorem rest_bar : bigSep ((sortRd (F := F) m).duties (barCell c) 0 \ ∅) (fun d => (sortRd (F := F) m).payload (barCell c) 0 d)
    = bigSep Finset.univ fun j : Fin 15 => (iprop(∃ f, slotPts (sh c j) c f) : sProp 𝕄) := by
  rw [Finset.sdiff_empty, duties_bar, ← image_sh, bigSep_image_of_injOn (fun a _ b _ h => sh_injective c h)]
  rfl
theorem rest_send (j : Fin 15) : bigSep ((sortRd (F := F) m).duties (sendCell c j) 0 \ ∅) (fun d => (sortRd (F := F) m).payload (sendCell c j) 0 d)
    = sendPts m c (shr j) := by
  rw [Finset.sdiff_empty, duties_send, bigSep_singleton, payload_send]
theorem rest_recv (s : Dev nD) (h : s ≠ c) : bigSep ((sortRd (F := F) m).duties (recvCell c s) 0 \ ∅) (fun d => (sortRd (F := F) m).payload (recvCell c s) 0 d)
    = slotPts c s (gath m) := by
  rw [Finset.sdiff_empty, duties_recv m c s h, bigSep_singleton, payload_recv]
theorem rest_copy : bigSep ((sortRd (F := F) m).duties (copyCell c) 0 \ ∅) (fun d => (sortRd (F := F) m).payload (copyCell c) 0 d)
    = iprop(slotPts c c (gath m) ∗ sendPts m c 0) := by
  rw [Finset.sdiff_empty, duties_copy, bigSep_singleton, payload_copy]

end Sched

/-! ## What each device owes; the levels -/

/-- Still to be signalled, from shift `a` on; still to be sent, from shift `a` on. -/
def owedBar (c : Dev nD) (a : ℕ) : CellTallies nD τ sig Unit := ∑ j ∈ ge a, tallyAt (barCell (sh c j)) () 1
def owedRecv (c : Dev nD) (a : ℕ) : CellTallies nD τ sig Unit := ∑ j ∈ ge a, tallyAt (recvCell (sh c j) c) () N
def O₀ (c : Dev nD) : CellTallies nD τ sig Unit := owedRecv c 0 + owedBar c 0

theorem owedBar_step (c : Dev nD) (j : Fin 15) : owedBar c j.val = owedBar c (j.val + 1) + tallyAt (barCell (sh c j)) () 1 := by
  unfold owedBar; rw [ge_step, Finset.sum_insert (not_mem_ge j), add_comm]
theorem owedRecv_step (c : Dev nD) (j : Fin 15) : owedRecv c j.val = owedRecv c (j.val + 1) + tallyAt (recvCell (sh c j) c) () N := by
  unfold owedRecv; rw [ge_step, Finset.sum_insert (not_mem_ge j), add_comm]
theorem owedBar_end (c : Dev nD) : owedBar c 15 = 0 := by unfold owedBar; rw [ge_end, Finset.sum_empty]
theorem owedRecv_end (c : Dev nD) : owedRecv c 15 = 0 := by unfold owedRecv; rw [ge_end, Finset.sum_empty]

def L (g : GSem nD τ sig) : Finset Unit := if g.1.2 = .tc then {()} else ∅
/-- The barrier below the receive semaphores, both above everything else. -/
def dmaLv (q : ℕ) : ℕ := if q < 17 then 0 else if q < 33 then 2 else 0
def lvOf (sm : SemLoc sig) : ℕ := match sm with | .reg _ => 1 | .dma q => dmaLv q.val
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c s : Dev nD) (u : Unit) : lv (recvCell c s) u = 2 := by
  have hs : s.val < 16 := s.isLt
  show dmaLv (s.val + 17) = 2
  unfold dmaLv
  rw [if_neg (by omega), if_pos (by omega)]

theorem sum_tally_pos {S : Finset (Fin 15)} {f : Fin 15 → GSem nD τ sig} {k : ℕ} {g : GSem nD τ sig} {u : Unit}
    (h : 0 < (∑ j ∈ S, (tallyAt (f j) () k : CellTallies nD τ sig Unit)) g u) : ∃ j, g = f j := by
  induction S using Finset.induction_on with
  | empty => rw [Finset.sum_empty] at h; exact absurd h (Nat.lt_irrefl 0)
  | @insert a S ha ih =>
    rw [Finset.sum_insert ha, Pi.add_apply, Finsupp.add_apply, tallyAt_apply] at h
    by_cases hg : g = f a ∧ u = ()
    · exact ⟨a, hg.1⟩
    · rw [if_neg hg, Nat.zero_add] at h; exact ih h

theorem owedRecv_pos {c : Dev nD} {a : ℕ} {g : GSem nD τ sig} {u : Unit} (h : 0 < owedRecv c a g u) : ∃ j, g = recvCell (sh c j) c :=
  sum_tally_pos h
theorem O₀_pos {c : Dev nD} {g : GSem nD τ sig} {u : Unit} (h : 0 < O₀ c g u) :
    (∃ j, g = recvCell (sh c j) c) ∨ ∃ j, g = barCell (sh c j) := by
  unfold O₀ at h
  rw [Pi.add_apply, Finsupp.add_apply] at h
  rcases Nat.eq_zero_or_pos (owedRecv c 0 g u) with h0 | h0
  · rw [h0, Nat.zero_add] at h; exact .inr (sum_tally_pos h)
  · exact .inl (sum_tally_pos h0)

omit [FloatOps F] in
/-- A staging wait, whatever is owed then. -/
theorem mayWait_stage (c : Dev nD) (q : DmaSem sig) (hq : q.val < 17) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact Nat.le_of_eq (if_pos hq))
      (fun g u hg => by
        rcases O₀_pos hg with ⟨j, rfl⟩ | ⟨j, rfl⟩
        · rw [lv_recv]; decide
        · exact Nat.one_pos)
  · rw [MayWait_zero]; iintro -; iempintro

omit [FloatOps F] in
/-- At its barrier a device owes only receive credits. -/
theorem mayWait_bar (c : Dev nD) :
    (levAts L lv : sProp 𝕄) ⊢ MayWait (c : Thread nD τ) (.reg barS) () (owedRecv c 0) :=
  MayOwe.of_cut (L := L) (lev := lv) 1 (fun p hp => by rw [Finset.mem_singleton.mp hp, L_tc]; exact Finset.mem_singleton_self _)
    (fun g u hg => by obtain ⟨j, rfl⟩ := owedRecv_pos hg; exact Finset.mem_singleton_self _)
    (fun p hp => by rw [Finset.mem_singleton.mp hp]; exact Nat.le_refl 1)
    (fun g u hg => by obtain ⟨j, rfl⟩ := owedRecv_pos hg; rw [lv_recv]; decide)

end Cert.SortProof

end
-- ==== Proof.Steps.lean ====
/- One lemma per kind of step of the exchange: a signal, the barrier's wait, the local copy and its wait, a transfer, a receive
   wait, a send wait, and a value put into a buffer by one of two opposite branches. Each takes what a device holds before the
   step to what it holds after, with anything else (`X`) untouched. -/
module

public import proofs.«01_k».proof.Proof.Schedule

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

local notation "𝕄" => MT nD τ sig Unit (Elt F) ℕ UU ℕ

omit [FloatOps F] in
/-- One summand apart from the rest. -/
theorem split_off {I : Type} [DecidableEq I] {i : I} {s : Finset I} (h : i ∉ s) {Φ : I → sProp 𝕄} :
    bigSep (insert i s) Φ = iprop(Φ i ∗ bigSep s Φ) := bigSep_insert h
omit [FloatOps F] in
/-- One summand alone. -/
theorem single_out {I : Type} [DecidableEq I] {i : I} {s : Finset I} (h : i ∈ s) {Φ : I → sProp 𝕄} : (bigSep s Φ : sProp 𝕄) ⊢ Φ i :=
  bigSep_elim h

abbrev 𝒱₀ : Variants := Variants.none

/-- The weakest precondition of a piece of device `c`'s body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
theorem bar_level (c : Dev nD) : (levAts L lv : sProp 𝕄) ⊢ MayWait (c : Thread nD τ) (.reg barS) () (owedRecv c 0) := mayWait_bar c

variable (m : (ℓ : Loc nD τ sig) → Buf (Elt F) ℓ) (K : Dev nD × KC → ℕ)

/-- Every cell's invariant, that every cell's round 0 is reached, and the levels: known to all, at every time. -/
def records : sProp 𝕄 :=
  iprop((bigSep Finset.univ fun ck : Dev nD × KC => cellInv ER (sortRd m) (K ck) (kcell ck))
    ∗ (bigSep Finset.univ fun ck : Dev nD × KC => reached ER (kcell ck) 0) ∗ levAts L lv)

instance records_persistent : BI.Persistent (records m K) := by unfold records; infer_instance

theorem inv_of (ck : Dev nD × KC) : records m K ⊢ cellInv ER (sortRd m) (K ck) (kcell ck) := by
  unfold records
  iintro ⟨#HI, -, -⟩
  iapply (single_out (Finset.mem_univ ck) (Φ := fun ck : Dev nD × KC => (cellInv ER (sortRd m) (K ck) (kcell ck) : sProp 𝕄)))
  iexact HI
theorem reached_of (ck : Dev nD × KC) : records m K ⊢ reached ER (kcell ck) 0 := by
  unfold records
  iintro ⟨-, #HR, -⟩
  iapply (single_out (Finset.mem_univ ck) (Φ := fun ck : Dev nD × KC => (reached ER (kcell ck) 0 : sProp 𝕄)))
  iexact HR
theorem levels_of : records m K ⊢ levAts L lv := by
  unfold records
  iintro ⟨-, -, #HL⟩
  iexact HL

theorem bar_waits (c : Dev nD) : records m K ⊢ MayWait (c : Thread nD τ) (.reg barS) () (owedRecv c 0) := by
  unfold records
  iintro ⟨-, -, HL⟩
  iapply (bar_level (F := F) c)
  iexact HL

/-- The names of the cells. -/
abbrev kBar : KC := .inl ()
abbrev kSend (j : Fin 15) : KC := .inr (.inl j)
abbrev kRecv (s : Dev nD) : KC := .inr (.inr (.inl s))
abbrev kCopy : KC := .inr (.inr (.inr ()))

/-! ## What a device holds along the way -/

/-- It owes `O`. -/
def owing (c : Dev nD) (O : CellTallies nD τ sig Unit) : sProp 𝕄 := iprop(∃ W, owes (c : Thread nD τ) O W)

/-- Before the signal of shift `a`: the tokens of the signals to come, and the slots they will hand over. -/
def Sig (c : Dev nD) (a : ℕ) : sProp 𝕄 :=
  iprop(owing c (owedRecv c 0 + owedBar c a)
    ∗ bigSep (ge a) fun j => iprop(dutyTok ER (barCell (sh c j)) 0 c ∗ ∃ f, slotPts c (sh c j) f))
/-- Before the transfer of shift `a`. -/
def Snd (c : Dev nD) (a : ℕ) : sProp 𝕄 :=
  iprop(owing c (owedRecv c a)
    ∗ (bigSep (ge a) fun j => iprop(dutyTok ER (recvCell (sh c j) c) 0 c ∗ dutyTok ER (sendCell c j) 0 c
        ∗ (∃ f, slotPts (sh c j) c f) ∗ sendPts m c (shr j)))
    ∗ bigSep (lt a) fun j => cred (tallyAt (sendCell c j) () N))
/-- Before the receive wait of shift `a`. -/
def Rcv (c : Dev nD) (a : ℕ) : sProp 𝕄 :=
  iprop(owing c 0
    ∗ (bigSep (ge a) fun j => iprop(cred (tallyAt (recvCell c (sh c j)) () N) ∗ atPos ER (recvCell c (sh c j)) 0 ∅ 0))
    ∗ bigSep (lt a) fun j => iprop(atPos ER (recvCell c (sh c j)) 1 ∅ 0 ∗ slotPts c (sh c j) (gath m)))
/-- Before the send wait of shift `a`. -/
def Swt (c : Dev nD) (a : ℕ) : sProp 𝕄 :=
  iprop(owing c 0
    ∗ (bigSep (ge a) fun j => iprop(cred (tallyAt (sendCell c j) () N) ∗ atPos ER (sendCell c j) 0 ∅ 0))
    ∗ bigSep (lt a) fun j => iprop(atPos ER (sendCell c j) 1 ∅ 0 ∗ sendPts m c (shr j)))

/-! ## The steps -/

variable {c : Dev nD}

/-- The signal to the device `j + 1` places on, with the slot it may fill. -/
theorem sig_step (j : Fin 15) {n : Dev nD} (hn : n = sh c j) {z : ℤ} (hz : z = ((1 : ℕ) : ℤ)) {α : Type} {k : PUnit → Prog (TpuEff nD τ sig (Elt F) Λ₀ .tc) α}
    {Q : α → sProp 𝕄} {X : sProp 𝕄} (h : iprop(records m K ∗ Sig c (j.val + 1) ∗ X) ⊢ wpc c (k ⟨⟩) Q) :
    iprop(records m K ∗ Sig c j.val ∗ X) ⊢ wpc c (.op (.semSignal ((n, .tc) : Thread nD τ) barS z) k) Q := by
  subst hn; subst hz
  unfold Sig owing
  rw [ge_step, split_off (not_mem_ge j)]
  iintro ⟨#HR, ⟨⟨%W, HO⟩, ⟨Htok, Hslot⟩, Hrest⟩, HX⟩
  iapply (Rounds.wp_signal 𝒱₀ ER (sortRd m) (c : Thread nD τ) none (dst := (sh c j : Thread nD τ)) (sem := barS) (r := 0)
      (κ := K (sh c j, kBar)) (d := c) (k' := 1)
      (Finset.mem_erase.mpr ⟨(sh_ne c j).symm, Finset.mem_univ _⟩) rfl () (owedRecv c 0 + owedBar c (j.val + 1))
      (by rw [add_assoc, ← owedBar_step]) (O₀ := owedRecv c 0 + owedBar c j.val) (W := W)) $$ [HO Htok Hslot]
  · isplitr; · iapply (inv_of m K (sh c j, kBar)); iexact HR
    isplitl [HO]; · iexact HO
    isplitl [Htok]; · iexact Htok
    isplitl [Hslot]; · rw [payload_bar]; iexact Hslot
    iapply (reached_of m K (sh c j, kBar)); iexact HR
  iintro HO
  iapply h
  unfold Sig owing
  isplitr; · iexact HR
  isplitl [HO Hrest]
  · isplitl [HO]; · iexists W; iexact HO
    iexact Hrest
  iexact HX

/-- The wait for all fifteen: the slots of the others that this device fills. -/
theorem bar_step {z : ℤ} (hz : z = ((15 : ℕ) : ℤ)) {α : Type} {k : PUnit → Prog (TpuEff nD τ sig (Elt F) Λ₀ .tc) α}
    {Q : α → sProp 𝕄} {X : sProp 𝕄} (h : iprop(records m K ∗ owing c (owedRecv c 0) ∗ atPos ER (barCell c) 1 ∅ 0
        ∗ (bigSep Finset.univ fun j : Fin 15 => iprop(∃ f, slotPts (sh c j) c f)) ∗ X) ⊢ wpc c (k ⟨⟩) Q) :
    iprop(records m K ∗ Sig c 15 ∗ (cred (tallyAt (barCell c) () 15) ∗ atPos ER (barCell c) 0 ∅ 0) ∗ X)
      ⊢ wpc c (.op (.semWait barS z) k) Q := by
  subst hz
  unfold Sig owing
  rw [owedBar_end, add_zero]
  iintro ⟨#HR, ⟨⟨%W, HO⟩, -⟩, ⟨Hc, Hat⟩, HX⟩
  ihave #Hw := (bar_waits m K c) $$ HR
  iapply (Rounds.wp_wait_rest_token 𝒱₀ ER (sortRd m) (c : Thread nD τ) none (κ := K (c, kBar))
      (wpE_semWait_eq 𝒱₀ (c : Thread nD τ) none Set.univ) (Set.mem_univ _) () (O := owedRecv c 0) (W := W) (R := 0) (m := 0) (T := ∅)
      (by rw [Nat.zero_add, expect_bar])) $$ [Hc HO Hat]
  · isplitr; · iapply (inv_of m K (c, kBar)); iexact HR
    isplitl [Hc]; · iexact Hc
    isplitl [HO]; · iexact HO
    isplitr; · iexact Hw
    iexact Hat
  iintro ⟨HO, Hat, -, Hpay⟩
  ihave Hp := (Entails.of_eq (rest_bar m c)) $$ Hpay
  iapply h
  unfold owing
  isplitr; · iexact HR
  isplitl [HO]; · iexists _; iexact HO
  isplitl [Hat]; · iexact Hat
  isplitl [Hp]; · iexact Hp
  iexact HX

/-- The local copy of the sorted block into the device's own slot. -/
theorem copy_step {D : Memref sig .tc .vmem S128x64 .f32} (hD : D = slotM c) {S : DmaSem sig} (hS : S = copyS)
    {hsrc : sM.view.WordExact} {hdst : D.view.WordExact} {hsem : DmaTarget.Typed (nD := nD) (τ := τ) (p := .tc) .vmem (.dma S) (.here D)}
    {α : Type} {k : PUnit → Prog (TpuEff nD τ sig (Elt F) Λ₀ .tc) α}
    {Q : α → sProp 𝕄} {X : sProp 𝕄} (h : iprop(records m K ∗ cred (tallyAt (copyCell c) () N) ∗ X) ⊢ wpc c (k ⟨⟩) Q) :
    iprop(records m K ∗ (sendPts m c 0 ∗ (∃ f, slotPts c c f) ∗ dutyTok ER (copyCell c) 0 c) ∗ X)
      ⊢ wpc c (.op (.enqueueDma sM (.here D) (.dma S) hsrc hdst hsem) k) Q := by
  subst hD; subst hS
  iintro ⟨#HR, ⟨Hs, ⟨%fd, Hd⟩, Ht⟩, HX⟩
  iapply (Rounds.wp_copy_pointsTo 𝒱₀ ER (sortRd m) (c : Thread nD τ) none (r := 0) (d := c) (κ := K (c, kCopy))
      (fs := sent m c) (fd := fd) (q := leaf 4 fullShare 0)
      (by rw [duties_copy]; exact Finset.mem_singleton_self _) () N rfl rfl
      (by
        rw [payload_copy]
        unfold slotPts sendPts
        rw [pointsTo_congr (landed_slot m c fd)])) $$ [Hs Hd Ht]
  · isplitr; · iapply (inv_of m K (c, kCopy)); iexact HR
    isplitl [Hs]; · unfold sendPts; iexact Hs
    isplitl [Hd]; · unfold slotPts; iexact Hd
    isplitl [Ht]; · iexact Ht
    iapply (reached_of m K (c, kCopy)); iexact HR
  iintro Hc
  iapply h
  isplitr; · iexact HR
  isplitl [Hc]; · iexact Hc
  iexact HX

/-- The transfer of the sorted block to the device `j + 1` places on. -/
theorem send_step (j : Fin 15) {n : Dev nD} (hn : n = sh c j) {D : Memref sig .tc .vmem S128x64 .f32} (hD : D = slotM c)
    {S : DmaSem sig} (hS : S = sendS j) {R : DmaSem sig} (hR : R = recvS c)
    {hsc : D.view.ref.isScScratch = false} {hsrc : sM.view.WordExact} {hdst : D.view.WordExact}
    {hsem : DmaTarget.Typed .vmem (.dma R) (.remote (Dev.tc n : Thread nD τ) D (.dma S) hsc)}
    {α : Type} {k : PUnit → Prog (TpuEff nD τ sig (Elt F) Λ₀ .tc) α}
    {Q : α → sProp 𝕄} {X : sProp 𝕄} (h : iprop(records m K ∗ Snd m c (j.val + 1) ∗ X) ⊢ wpc c (k ⟨⟩) Q) :
    iprop(records m K ∗ Snd m c j.val ∗ X)
      ⊢ wpc c (.op (.enqueueDma sM (.remote (Dev.tc n : Thread nD τ) D (.dma S) hsc) (.dma R) hsrc hdst hsem) k) Q := by
  subst hn; subst hD; subst hS; subst hR
  unfold Snd owing
  rw [ge_step, split_off (not_mem_ge j)]
  iintro ⟨#HR, ⟨⟨%W, HO⟩, ⟨⟨HtR, HtS, ⟨%fd, Hd⟩, Hs⟩, Hrest⟩, Hdone⟩, HX⟩
  iapply (Rounds.wp_send_pointsTo 𝒱₀ ER (sortRd m) (c : Thread nD τ) none (κ₁ := K (c, kSend j)) (κ₂ := K (sh c j, kRecv c))
      (r₁ := 0) (r₂ := 0) (d₁ := c) (d₂ := c) (fs := sent m c) (fd := fd) (q := leaf 4 fullShare (shr j))
      (by rw [duties_send]; exact Finset.mem_singleton_self _)
      (by rw [duties_recv m (sh c j) c (sh_ne c j).symm]; exact Finset.mem_singleton_self _)
      () () N rfl rfl rfl (owedRecv c (j.val + 1)) (owedRecv_step c j) (W := W)
      (by rw [payload_send]; exact BI.Entails.refl _)
      (by
        rw [payload_recv]
        unfold slotPts
        rw [pointsTo_congr (landed_slot m c fd)])) $$ [HtR HtS Hd Hs HO]
  · isplitr; · iapply (inv_of m K (c, kSend j)); iexact HR
    isplitr; · iapply (inv_of m K (sh c j, kRecv c)); iexact HR
    isplitl [Hs]; · unfold sendPts; iexact Hs
    isplitl [Hd]; · unfold slotPts; iexact Hd
    isplitl [HO]; · iexact HO
    isplitl [HtS]; · iexact HtS
    isplitr; · iapply (reached_of m K (c, kSend j)); iexact HR
    isplitl [HtR]; · iexact HtR
    iapply (reached_of m K (sh c j, kRecv c)); iexact HR
  iintro ⟨Hc, HO⟩
  iapply h
  unfold Snd owing
  rw [lt_step, split_off (not_mem_lt j)]
  isplitr; · iexact HR
  isplitl [HO Hrest Hc Hdone]
  · isplitl [HO]; · iexists W; iexact HO
    isplitl [Hrest]; · iexact Hrest
    isplitl [Hc]; · iexact Hc
    iexact Hdone
  iexact HX

/-- The local copy's wait: the device's own slot filled, and the share it read through. -/
theorem copied_step {S : DmaSem sig} (hS : S = copyS) {D : Memref sig .tc .vmem S128x64 .f32} (hD : D = slotM c)
    {hsrc : sM.view.WordExact} {hdst : D.view.WordExact} {α : Type} {k : PUnit → Prog (TpuEff nD τ sig (Elt F) Λ₀ .tc) α}
    {Q : α → sProp 𝕄} {X : sProp 𝕄} (h : iprop(records m K ∗ owing c 0 ∗ (atPos ER (copyCell c) 1 ∅ 0 ∗ slotPts c c (gath m) ∗ sendPts m c 0) ∗ X) ⊢ wpc c (k ⟨⟩) Q) :
    iprop(records m K ∗ owing c 0 ∗ (cred (tallyAt (copyCell c) () N) ∗ atPos ER (copyCell c) 0 ∅ 0) ∗ X)
      ⊢ wpc c (.op (.waitDma2 S sM D hsrc hdst) k) Q := by
  subst hD; subst hS
  unfold owing
  iintro ⟨#HR, ⟨%W, HO⟩, ⟨Hc, Hat⟩, HX⟩
  iapply (Rounds.wp_wait_rest_token 𝒱₀ ER (sortRd m) (c : Thread nD τ) none (κ := K (c, kCopy))
      (wpE_waitDma2_eq 𝒱₀ (c : Thread nD τ) none Set.univ) (Set.mem_univ _) () (O := 0) (W := W) (R := 0) (m := 0) (T := ∅)
      (by rw [Nat.zero_add, expect_copy])) $$ [Hc HO Hat]
  · isplitr; · iapply (inv_of m K (c, kCopy)); iexact HR
    isplitl [Hc]; · iexact Hc
    isplitl [HO]; · iexact HO
    isplitr; · rw [MayWait_zero]; iempintro
    iexact Hat
  iintro ⟨HO, Hat, -, Hpay⟩
  ihave Hp := (Entails.of_eq (rest_copy m c)) $$ Hpay
  icases Hp with ⟨Hp, Hs⟩
  iapply h
  unfold owing
  isplitr; · iexact HR
  isplitl [HO]; · iexists _; iexact HO
  isplitl [Hat Hp Hs]
  · isplitl [Hat]; · iexact Hat
    isplitl [Hp]; · iexact Hp
    iexact Hs
  iexact HX

/-- The wait for the block of the device `j + 1` places on. -/
theorem recv_step (j : Fin 15) {S : DmaSem sig} (hS : S = recvS (sh c j)) {D : Memref sig .tc .vmem S128x64 .f32} (hD : D = slotM (sh c j))
    {hsrc : sM.view.WordExact} {hdst : D.view.WordExact} {α : Type} {k : PUnit → Prog (TpuEff nD τ sig (Elt F) Λ₀ .tc) α}
    {Q : α → sProp 𝕄} {X : sProp 𝕄} (h : iprop(records m K ∗ Rcv m c (j.val + 1) ∗ X) ⊢ wpc c (k ⟨⟩) Q) :
    iprop(records m K ∗ Rcv m c j.val ∗ X) ⊢ wpc c (.op (.waitDma2 S sM D hsrc hdst) k) Q := by
  subst hD; subst hS
  unfold Rcv owing
  rw [ge_step, split_off (not_mem_ge j)]
  iintro ⟨#HR, ⟨⟨%W, HO⟩, ⟨⟨Hc, Hat⟩, Hrest⟩, Hdone⟩, HX⟩
  iapply (Rounds.wp_wait_rest_token 𝒱₀ ER (sortRd m) (c : Thread nD τ) none (κ := K (c, kRecv (sh c j)))
      (wpE_waitDma2_eq 𝒱₀ (c : Thread nD τ) none Set.univ) (Set.mem_univ _) () (O := 0) (W := W) (R := 0) (m := 0) (T := ∅)
      (by rw [Nat.zero_add, expect_recv m c _ (sh_ne c j)])) $$ [Hc HO Hat]
  · isplitr; · iapply (inv_of m K (c, kRecv (sh c j))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c _ (sh_ne c j))) $$ Hpay
  iapply h
  unfold Rcv owing
  rw [lt_step, split_off (not_mem_lt j)]
  isplitr; · iexact HR
  isplitl [HO Hrest Hat Hp Hdone]
  · isplitl [HO]; · iexists _; iexact HO
    isplitl [Hrest]; · iexact Hrest
    isplitl [Hat Hp]
    · isplitl [Hat]; · iexact Hat
      iexact Hp
    iexact Hdone
  iexact HX

/-- The wait for the `j`-th transfer to have left: its share of the send buffer back. -/
theorem sent_step (j : Fin 15) {S : DmaSem sig} (hS : S = sendS j) {D : Memref sig .tc .vmem S128x64 .f32}
    {hsrc : D.view.WordExact} {hdst : sM.view.WordExact} {α : Type} {k : PUnit → Prog (TpuEff nD τ sig (Elt F) Λ₀ .tc) α}
    {Q : α → sProp 𝕄} {X : sProp 𝕄} (h : iprop(records m K ∗ Swt m c (j.val + 1) ∗ X) ⊢ wpc c (k ⟨⟩) Q) :
    iprop(records m K ∗ Swt m c j.val ∗ X) ⊢ wpc c (.op (.waitDma2 S D sM hsrc hdst) k) Q := by
  subst hS
  unfold Swt owing
  rw [ge_step, split_off (not_mem_ge j)]
  iintro ⟨#HR, ⟨⟨%W, HO⟩, ⟨⟨Hc, Hat⟩, Hrest⟩, Hdone⟩, HX⟩
  iapply (Rounds.wp_wait_rest_token 𝒱₀ ER (sortRd m) (c : Thread nD τ) none (κ := K (c, kSend j))
      (wpE_waitDma2_eq 𝒱₀ (c : Thread nD τ) none Set.univ) (Set.mem_univ _) () (O := 0) (W := W) (R := 0) (m := 0) (T := ∅)
      (by rw [Nat.zero_add, expect_send m c j])) $$ [Hc HO Hat]
  · isplitr; · iapply (inv_of m K (c, kSend j)); iexact HR
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  iapply h
  unfold Swt owing
  rw [lt_step, split_off (not_mem_lt j)]
  isplitr; · iexact HR
  isplitl [HO Hrest Hat Hp Hdone]
  · isplitl [HO]; · iexists _; iexact HO
    isplitl [Hrest]; · iexact Hrest
    isplitl [Hat Hp]
    · isplitl [Hat]; · iexact Hat
      iexact Hp
    iexact Hdone
  iexact HX

end Cert.SortProof

end
-- ==== Proof.Body.lean ====
/- The pieces of the kernel's body that touch memory or semaphores, one lemma each: what a device holds before the piece, what it
   holds after. The pieces in between only compute. -/
module

public import proofs.«01_k».proof.Proof.Steps

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

local notation "𝕄" => MT nD τ sig Unit (Elt F) ℕ UU ℕ

set_option maxHeartbeats 1000000

variable (m : (ℓ : Loc nD τ sig) → Buf (Elt F) ℓ) (K : Dev nD × KC → ℕ) {c : Dev nD}
variable {h0 : xM.IsWhole} {h1 : oM.IsWhole} {h2 : sM.IsWhole} {h3 : gM.IsWhole}
abbrev aM : Memref sig .tc .vmem S512x128 .f32 := Memref.whole cc0_scratch2
abbrev bM : Memref sig .tc .vmem S256x128 .f32 := Memref.whole cc0_scratch3
abbrev cM : Memref sig .tc .vmem S128x128 .f32 := Memref.whole cc0_scratch4
variable {h4 : aM.IsWhole} {h5 : bM.IsWhole} {h6 : cM.IsWhole}

/-- Rearrange first. -/
theorem first {α : Type} {p : Prog (TpuEff nD τ sig (Elt F) Λ₀ .tc) α} {P P' : sProp 𝕄} {Q : α → sProp 𝕄} (h : P ⊢ P') (h' : P' ⊢ wpc c p Q) :
    P ⊢ wpc c p Q := h.trans h'

/-- At the end of a piece. -/
theorem ret_step {α : Type} {a : α} {P : sProp 𝕄} {Q : α → sProp 𝕄} (h : P ⊢ Q a) : P ⊢ wpc c (.ret a) Q := by
  show P ⊢ wp _ _ _ (Prog.ret a) Q
  rw [wp_ret]
  iintro H
  imodintro
  iapply h
  iexact H

/-- The place `j + 1` on, as the program computes it. -/
theorem to_sh (j : Fin 15) {n : ℕ} {hn : n < nD} (h : n = (c.val + (j.val + 1)) % 16) : (⟨n, hn⟩ : Dev nD) = sh c j := Fin.ext h

/-! ## Loads, stores, and a store under a condition -/

section Memory
variable {s : Shape} {e : EltTy} {M : Memref sig .tc .vmem s e} {r : Rect s} {α : Type}

theorem load_step {hl : M.view.LoadsAt r.toLoadRect} {k : (r.shape.Idx → Elt F e) → Prog (TpuEff nD τ sig (Elt F) Λ₀ .tc) α}
    {f : Buf (Elt F) (M.view.loc (c : Thread nD τ))} (v : r.shape.Idx → Elt F e) (hv : M.view.readAt (Elt F) r.toLoadRect f = v)
    {Q : α → sProp 𝕄} {X : sProp 𝕄} (h : iprop(records m K ∗ (M.view.loc (c : Thread nD τ) ↦{fullShare} f) ∗ X) ⊢ wpc c (k v) Q) :
    iprop(records m K ∗ (M.view.loc (c : Thread nD τ) ↦{fullShare} f) ∗ X) ⊢ wpc c (.op (.load M r.toLoadRect hl) k) Q := by
  subst hv
  iintro ⟨#HR, Hb, HX⟩
  iapply (wp_load 𝒱₀ (c : Thread nD τ) none Set.univ (m := M) (Finset.subset_univ _)) $$ Hb
  iintro Hb
  iapply h
  isplitr; · iexact HR
  isplitl [Hb]; · iexact Hb
  iexact HX

theorem store_step {w : r.shape.Idx → Elt F e} {hx : (M.access r).Stores Finset.univ} {hm}
    {k : PUnit → Prog (TpuEff nD τ sig (Elt F) Λ₀ .tc) α}
    {f : Buf (Elt F) (M.view.loc (c : Thread nD τ))} (f' : Buf (Elt F) (M.view.loc (c : Thread nD τ)))
    (hf : (M.access r).write (Elt F) f w Finset.univ = f')
    {Q : α → sProp 𝕄} {X : sProp 𝕄} (h : iprop(records m K ∗ (M.view.loc (c : Thread nD τ) ↦{fullShare} f') ∗ X) ⊢ wpc c (k ⟨⟩) Q) :
    iprop(records m K ∗ (M.view.loc (c : Thread nD τ) ↦{fullShare} f) ∗ X) ⊢ wpc c (.op (.store M r w Finset.univ hx hm) k) Q := by
  subst hf
  iintro ⟨#HR, Hb, HX⟩
  iapply (wp_store 𝒱₀ (c : Thread nD τ) none Set.univ (m := M) (r := r) (Mk := Finset.univ) (Finset.subset_univ _)) $$ Hb
  iintro Hb
  iapply h
  isplitr; · iexact HR
  isplitl [Hb]; · iexact Hb
  iexact HX

/-- A store made when a computed word is one, that is when `P` holds. -/
theorem when_step {v : BitVec 1} {P : Prop} [Decidable P] (hP : v = 1#1 ↔ P) {w : r.shape.Idx → Elt F e}
    {hl : M.view.LoadsAt r.toLoadRect} {hx : (M.access r).Stores Finset.univ} {hm}
    {k : Prog (TpuEff nD τ sig (Elt F) Λ₀ .tc) α}
    {f : Buf (Elt F) (M.view.loc (c : Thread nD τ))} (f' : Buf (Elt F) (M.view.loc (c : Thread nD τ)))
    (hf : (M.access r).write (Elt F) f w Finset.univ = f')
    {Q : α → sProp 𝕄} {X : sProp 𝕄} (h : iprop(records m K ∗ (M.view.loc (c : Thread nD τ) ↦{fullShare} (if P then f' else f)) ∗ X) ⊢ wpc c k Q) :
    iprop(records m K ∗ (M.view.loc (c : Thread nD τ) ↦{fullShare} f) ∗ X)
      ⊢ wpc c (if hh : v = 1#1 then .op (.load M r.toLoadRect hl) fun _ => .op (.store M r w Finset.univ hx hm) fun _ => k else k) Q := by
  by_cases hp : P
  · rw [dif_pos (hP.mpr hp)]
    rw [if_pos hp] at h
    exact load_step m K _ rfl (store_step m K f' hf h)
  · rw [dif_neg (fun hv => hp (hP.mp hv))]
    rw [if_neg hp] at h
    exact h

end Memory

/-- Two opposite conditions: one of the two values. -/
theorem pick_one {P : Prop} [Decidable P] {β : Sort _} (x y f : β) : (if ¬P then y else if P then x else f) = if P then x else y := by
  by_cases h : P
  · rw [if_neg (fun hn => hn h), if_pos h, if_pos h]
  · rw [if_pos h, if_neg h]

theorem zero2 : (![0, 0] : Fin 2 → ℕ) = fun _ => 0 := by decide
theorem zero3 : (![0, 0, 0] : Fin 3 → ℕ) = fun _ => 0 := by decide

/-- A whole buffer of device `c` and what it holds. -/
abbrev holds (c : Dev nD) (b : Ref sig .tc) (f : b.ty.Contents (Elt F)) : sProp 𝕄 :=
  ((c : Thread nD τ).loc b : Loc nD τ sig) ↦{fullShare} (f : Buf (Elt F) ((c : Thread nD τ).loc b))

/-! ## The pieces -/

theorem part1 {Q : _ → sProp 𝕄} {X : sProp 𝕄} (f : (cc0_stg0_0 : Ref sig .tc).ty.Contents (Elt F))
    (h : iprop(records m K ∗ holds c cc0_stg0_0 f ∗ X) ⊢ Q ⟨c, myId c, isOdd c, rowIx, k0_pay2, k0_pay3 c f⟩) :
    iprop(records m K ∗ holds c cc0_stg0_0 f ∗ X) ⊢ wpc c (k0_part1 xM h0 oM h1 sM h2 gM h3 aM h4 bM h5 cM h6 cc0_scratch5 cc0_scratch6 cc0_scratch7) Q := by
  rw [k0_part1_eq_skeleton]
  unfold k0_part1_skel
  simp only [Prog.lift, Prog.bind_op, Prog.bind_ret, Prog.pure_eq_ret]
  rw [wpc, wp_deviceId]
  simp only [isOdd, myId, rowIx] at h
  refine load_step m K (M := xM) (f := f) f (Memref.readAt_unit_zero (Elt F) cc0_stg0_0 zero2 _ f) ?_
  rw [show (c : Thread nD τ).1 = c from rfl]
  exact ret_step h
theorem part8 {Q : _ → sProp 𝕄} {X : sProp 𝕄} (v389 : FVec F S64x2x1x64 .f32) (f)
    (h : ∀ w, iprop(records m K ∗ Sig c 4 ∗ holds c cc0_scratch0 (k0_pay22 (isOdd c) v389) ∗ X) ⊢ Q ⟨SemArray.scalar (sig.barrier 0 rfl), w, 0#32⟩) :
    iprop(records m K ∗ holds c cc0_scratch0 f ∗ Sig c 0 ∗ X) ⊢ wpc c (k0_part8 xM h0 oM h1 sM h2 gM h3 aM h4 bM h5 cM h6 cc0_scratch5 cc0_scratch6 cc0_scratch7 c (myId c) (isOdd c) v389) Q := by
  rw [k0_part8_eq_skeleton]
  unfold k0_part8_skel
  simp only [semSignalWord, semWaitWord, Prog.lift, Prog.bind_op, Prog.bind_ret, Prog.pure_eq_ret]
  refine load_step m K (M := sM) (f := f) _ rfl (store_step m K (M := sM) (f := f) (k0_pay22 (isOdd c) v389)
    (Memref.write_access_unit_zero_univ (Elt F) cc0_scratch0 zero2 _ f _) ?_)
  refine first (P' := iprop(records m K ∗ Sig c 0 ∗ holds c cc0_scratch0 (k0_pay22 (isOdd c) v389) ∗ X)) ?_ ?_
  · iintro ⟨#HR, Hb, HS, HX⟩
    isplitr; · iexact HR
    isplitl [HS]; · iexact HS
    isplitl [Hb]; · iexact Hb
    iexact HX
  refine sig_step m K 0 (to_sh 0 (k0_dev1_eq c)) rfl ?_
  refine sig_step m K 1 (to_sh 1 (k0_dev2_eq c)) rfl ?_
  refine sig_step m K 2 (to_sh 2 (k0_dev3_eq c)) rfl ?_
  refine sig_step m K 3 (to_sh 3 (k0_dev4_eq c)) rfl ?_
  exact ret_step (h _)

theorem part9 {Q : _ → sProp 𝕄} {X : sProp 𝕄} (v2 v416 w : BitVec 32)
    (h : ∀ w, iprop(records m K ∗ Sig c 10 ∗ X) ⊢ Q ⟨w, 0#32⟩) :
    iprop(records m K ∗ Sig c 4 ∗ X) ⊢ wpc c (k0_part9 xM h0 oM h1 sM h2 gM h3 aM h4 bM h5 cM h6 cc0_scratch5 cc0_scratch6 cc0_scratch7 c v2 (SemArray.scalar (sig.barrier 0 rfl)) v416 w) Q := by
  rw [k0_part9_eq_skeleton]
  unfold k0_part9_skel
  simp only [semSignalWord, semWaitWord, Prog.lift, Prog.bind_op, Prog.bind_ret, Prog.pure_eq_ret]
  refine sig_step m K 4 (to_sh 4 (k0_dev5_eq c)) rfl ?_
  refine sig_step m K 5 (to_sh 5 (k0_dev6_eq c)) rfl ?_
  refine sig_step m K 6 (to_sh 6 (k0_dev7_eq c)) rfl ?_
  refine sig_step m K 7 (to_sh 7 (k0_dev8_eq c)) rfl ?_
  refine sig_step m K 8 (to_sh 8 (k0_dev9_eq c)) rfl ?_
  refine sig_step m K 9 (to_sh 9 (k0_dev10_eq c)) rfl ?_
  exact ret_step (h _)

/-- What is left of the signals, the barrier's wait, and the local copy. -/
theorem part10 {Q : PUnit → sProp 𝕄} {X : sProp 𝕄} (v2 v440 w : BitVec 32)
    (h : iprop(records m K ∗ cred (tallyAt (copyCell c) () N) ∗ owing c (owedRecv c 0) ∗ atPos ER (barCell c) 1 ∅ 0
        ∗ (bigSep Finset.univ fun j : Fin 15 => iprop(∃ f, slotPts (sh c j) c f)) ∗ X) ⊢ Q ⟨⟩) :
    iprop(records m K ∗ Sig c 10 ∗ (cred (tallyAt (barCell c) () 15) ∗ atPos ER (barCell c) 0 ∅ 0)
        ∗ (sendPts m c 0 ∗ (∃ f, slotPts c c f) ∗ dutyTok ER (copyCell c) 0 c) ∗ X)
      ⊢ wpc c (k0_part10 xM h0 oM h1 sM h2 gM h3 aM h4 bM h5 cM h6 cc0_scratch5 cc0_scratch6 cc0_scratch7 c v2 (SemArray.scalar (sig.barrier 0 rfl)) v440 w) Q := by
  rw [k0_part10_eq_skeleton]
  unfold k0_part10_skel
  simp only [semSignalWord, semWaitWord, Prog.lift, Prog.bind_op, Prog.bind_ret, Prog.pure_eq_ret]
  refine sig_step m K 10 (to_sh 10 (k0_dev11_eq c)) rfl ?_
  refine sig_step m K 11 (to_sh 11 (k0_dev12_eq c)) rfl ?_
  refine sig_step m K 12 (to_sh 12 (k0_dev13_eq c)) rfl ?_
  refine sig_step m K 13 (to_sh 13 (k0_dev14_eq c)) rfl ?_
  refine sig_step m K 14 (to_sh 14 (k0_dev15_eq c)) rfl ?_
  refine bar_step m K rfl ?_
  refine first ?_ (copy_step m K (slotM_of c (k0_off1_eq c) _) copySem_eq
    (X := iprop(owing c (owedRecv c 0) ∗ atPos ER (barCell c) 1 ∅ 0
        ∗ (bigSep Finset.univ fun j : Fin 15 => iprop(∃ f, slotPts (sh c j) c f)) ∗ X)) (ret_step h))
  iintro ⟨#HR, HO, Hat, Hsl, Hcp, HX⟩
  isplitr; · iexact HR
  isplitl [Hcp]; · iexact Hcp
  isplitl [HO]; · iexact HO
  isplitl [Hat]; · iexact Hat
  isplitl [Hsl]; · iexact Hsl
  iexact HX

section Sends

theorem part11 {Q : PUnit → sProp 𝕄} {X : sProp 𝕄} (v2 : BitVec 32)
    (h : iprop(records m K ∗ Snd m c 3 ∗ X) ⊢ Q ⟨⟩) :
    iprop(records m K ∗ Snd m c 0 ∗ X) ⊢ wpc c (k0_part11 xM h0 oM h1 sM h2 gM h3 aM h4 bM h5 cM h6 cc0_scratch5 cc0_scratch6 cc0_scratch7 c v2) Q := by
  rw [k0_part11_eq_skeleton]
  unfold k0_part11_skel
  simp only [semSignalWord, semWaitWord, Prog.lift, Prog.bind_op, Prog.bind_ret, Prog.pure_eq_ret]
  refine send_step m K 0 (to_sh 0 (k0_dev16_eq c)) (slotM_of c (k0_off1_eq c) _) (sendSem_eq 0 _) (recvSem_eq c (k0_off2_eq c) _) ?_
  refine send_step m K 1 (to_sh 1 (k0_dev17_eq c)) (slotM_of c (k0_off1_eq c) _) (sendSem_eq 1 _) (recvSem_eq c (k0_off2_eq c) _) ?_
  refine send_step m K 2 (to_sh 2 (k0_dev18_eq c)) (slotM_of c (k0_off1_eq c) _) (sendSem_eq 2 _) (recvSem_eq c (k0_off2_eq c) _) ?_
  exact ret_step h

theorem part12 {Q : BitVec 32 → sProp 𝕄} {X : sProp 𝕄} (v2 : BitVec 32)
    (h : ∀ w, iprop(records m K ∗ Snd m c 7 ∗ X) ⊢ Q w) :
    iprop(records m K ∗ Snd m c 3 ∗ X) ⊢ wpc c (k0_part12 xM h0 oM h1 sM h2 gM h3 aM h4 bM h5 cM h6 cc0_scratch5 cc0_scratch6 cc0_scratch7 c v2) Q := by
  rw [k0_part12_eq_skeleton]
  unfold k0_part12_skel
  simp only [semSignalWord, semWaitWord, Prog.lift, Prog.bind_op, Prog.bind_ret, Prog.pure_eq_ret]
  refine send_step m K 3 (to_sh 3 (k0_dev19_eq c)) (slotM_of c (k0_off1_eq c) _) (sendSem_eq 3 _) (recvSem_eq c (k0_off2_eq c) _) ?_
  refine send_step m K 4 (to_sh 4 (k0_dev20_eq c)) (slotM_of c (k0_off1_eq c) _) (sendSem_eq 4 _) (recvSem_eq c (k0_off2_eq c) _) ?_
  refine send_step m K 5 (to_sh 5 (k0_dev21_eq c)) (slotM_of c (k0_off1_eq c) _) (sendSem_eq 5 _) (recvSem_eq c (k0_off2_eq c) _) ?_
  refine send_step m K 6 (to_sh 6 (k0_dev22_eq c)) (slotM_of c (k0_off1_eq c) _) (sendSem_eq 6 _) (recvSem_eq c (k0_off2_eq c) _) ?_
  exact ret_step (h _)

theorem part13 {Q : PUnit → sProp 𝕄} {X : sProp 𝕄} (v2 v531 : BitVec 32)
    (h : iprop(records m K ∗ Snd m c 10 ∗ X) ⊢ Q ⟨⟩) :
    iprop(records m K ∗ Snd m c 7 ∗ X) ⊢ wpc c (k0_part13 xM h0 oM h1 sM h2 gM h3 aM h4 bM h5 cM h6 cc0_scratch5 cc0_scratch6 cc0_scratch7 c v2 v531) Q := by
  rw [k0_part13_eq_skeleton]
  unfold k0_part13_skel
  simp only [semSignalWord, semWaitWord, Prog.lift, Prog.bind_op, Prog.bind_ret, Prog.pure_eq_ret]
  refine send_step m K 7 (to_sh 7 (k0_dev23_eq c)) (slotM_of c (k0_off1_eq c) _) (sendSem_eq 7 _) (recvSem_eq c (k0_off2_eq c) _) ?_
  refine send_step m K 8 (to_sh 8 (k0_dev24_eq c)) (slotM_of c (k0_off1_eq c) _) (sendSem_eq 8 _) (recvSem_eq c (k0_off2_eq c) _) ?_
  refine send_step m K 9 (to_sh 9 (k0_dev25_eq c)) (slotM_of c (k0_off1_eq c) _) (sendSem_eq 9 _) (recvSem_eq c (k0_off2_eq c) _) ?_
  exact ret_step h

theorem part14 {Q : PUnit → sProp 𝕄} {X : sProp 𝕄} (v2 : BitVec 32)
    (h : iprop(records m K ∗ Snd m c 13 ∗ X) ⊢ Q ⟨⟩) :
    iprop(records m K ∗ Snd m c 10 ∗ X) ⊢ wpc c (k0_part14 xM h0 oM h1 sM h2 gM h3 aM h4 bM h5 cM h6 cc0_scratch5 cc0_scratch6 cc0_scratch7 c v2) Q := by
  rw [k0_part14_eq_skeleton]
  unfold k0_part14_skel
  simp only [semSignalWord, semWaitWord, Prog.lift, Prog.bind_op, Prog.bind_ret, Prog.pure_eq_ret]
  refine send_step m K 10 (to_sh 10 (k0_dev26_eq c)) (slotM_of c (k0_off1_eq c) _) (sendSem_eq 10 _) (recvSem_eq c (k0_off2_eq c) _) ?_
  refine send_step m K 11 (to_sh 11 (k0_dev27_eq c)) (slotM_of c (k0_off1_eq c) _) (sendSem_eq 11 _) (recvSem_eq c (k0_off2_eq c) _) ?_
  refine send_step m K 12 (to_sh 12 (k0_dev28_eq c)) (slotM_of c (k0_off1_eq c) _) (sendSem_eq 12 _) (recvSem_eq c (k0_off2_eq c) _) ?_
  exact ret_step h

end Sends

/-- Every block sent: nothing is owed, and the credit of each transfer's leaving is at hand. -/
theorem snd_end : Snd m c 15 ⊢ iprop(owing c 0 ∗ bigSep Finset.univ fun j : Fin 15 => cred (tallyAt (sendCell c j) () N)) := by
  unfold Snd
  rw [owedRecv_end, lt_end]
  iintro ⟨HO, -, Hc⟩
  isplitl [HO]; · iexact HO
  iexact Hc
/-- The receive waits' start and end; the send waits'. -/
theorem rcv_start : iprop(owing c 0 ∗ bigSep Finset.univ fun j : Fin 15 =>
    iprop(cred (tallyAt (recvCell c (sh c j)) () N) ∗ atPos ER (recvCell c (sh c j)) 0 ∅ 0)) ⊢ Rcv m c 0 := by
  unfold Rcv
  rw [ge_zero, lt_zero, bigSep_empty]
  iintro ⟨HO, Hc⟩
  isplitl [HO]; · iexact HO
  isplitl [Hc]; · iexact Hc
  iempintro
theorem rcv_end : Rcv m c 15 ⊢ iprop(owing c 0 ∗ bigSep Finset.univ fun j : Fin 15 =>
    iprop(atPos ER (recvCell c (sh c j)) 1 ∅ 0 ∗ slotPts c (sh c j) (gath m))) := by
  unfold Rcv
  rw [lt_end]
  iintro ⟨HO, -, Hc⟩
  isplitl [HO]; · iexact HO
  iexact Hc
theorem swt_start : iprop(owing c 0 ∗ (bigSep Finset.univ fun j : Fin 15 => cred (tallyAt (sendCell c j) () N))
    ∗ bigSep Finset.univ fun j : Fin 15 => atPos ER (sendCell c j) 0 ∅ 0) ⊢ Swt m c 0 := by
  unfold Swt
  rw [ge_zero, lt_zero, bigSep_empty, bigSep_sep']
  iintro ⟨HO, Hc, Ha⟩
  isplitl [HO]; · iexact HO
  isplitl [Hc Ha]
  · isplitl [Hc]; · iexact Hc
    iexact Ha
  iempintro

theorem part15 {Q : _ → sProp 𝕄} {X : sProp 𝕄} (v2 : BitVec 32)
    (h : ∀ w, iprop(records m K ∗ Rcv m c 2 ∗ (atPos ER (copyCell c) 1 ∅ 0 ∗ slotPts c c (gath m) ∗ sendPts m c 0)
        ∗ (bigSep Finset.univ fun j : Fin 15 => cred (tallyAt (sendCell c j) () N)) ∗ X) ⊢ Q ⟨w, 16#32⟩) :
    iprop(records m K ∗ Snd m c 13 ∗ (cred (tallyAt (copyCell c) () N) ∗ atPos ER (copyCell c) 0 ∅ 0)
        ∗ (bigSep Finset.univ fun j : Fin 15 => iprop(cred (tallyAt (recvCell c (sh c j)) () N) ∗ atPos ER (recvCell c (sh c j)) 0 ∅ 0)) ∗ X)
      ⊢ wpc c (k0_part15 xM h0 oM h1 sM h2 gM h3 aM h4 bM h5 cM h6 cc0_scratch5 cc0_scratch6 cc0_scratch7 c v2) Q := by
  rw [k0_part15_eq_skeleton]
  unfold k0_part15_skel
  simp only [semSignalWord, semWaitWord, Prog.lift, Prog.bind_op, Prog.bind_ret, Prog.pure_eq_ret]
  refine send_step m K 13 (to_sh 13 (k0_dev29_eq c)) (slotM_of c (k0_off1_eq c) _) (sendSem_eq 13 _) (recvSem_eq c (k0_off2_eq c) _) ?_
  refine send_step m K 14 (to_sh 14 (k0_dev30_eq c)) (slotM_of c (k0_off1_eq c) _) (sendSem_eq 14 _) (recvSem_eq c (k0_off2_eq c) _) ?_
  refine first ?_ (copied_step m K copySem_eq (slotM_of c (k0_off1_eq c) _)
    (X := iprop((bigSep Finset.univ fun j : Fin 15 => cred (tallyAt (sendCell c j) () N))
      ∗ (bigSep Finset.univ fun j : Fin 15 => iprop(cred (tallyAt (recvCell c (sh c j)) () N) ∗ atPos ER (recvCell c (sh c j)) 0 ∅ 0)) ∗ X)) ?_)
  · rw [show (14 : Fin 15).val + 1 = 15 from rfl]
    iintro ⟨#HR, HS, Hc, Hr, HX⟩
    ihave HS' := (snd_end m) $$ HS
    icases HS' with ⟨HO, Hs⟩
    isplitr; · iexact HR
    isplitl [HO]; · iexact HO
    isplitl [Hc]; · iexact Hc
    isplitl [Hs]; · iexact Hs
    isplitl [Hr]; · iexact Hr
    iexact HX
  refine first (P' := iprop(records m K ∗ Rcv m c 0 ∗ (atPos ER (copyCell c) 1 ∅ 0 ∗ slotPts c c (gath m) ∗ sendPts m c 0)
        ∗ (bigSep Finset.univ fun j : Fin 15 => cred (tallyAt (sendCell c j) () N)) ∗ X)) ?_ ?_
  · iintro ⟨#HR, HO, Hc, Hs, Hr, HX⟩
    isplitr; · iexact HR
    isplitl [HO Hr]
    · iapply (rcv_start m)
      isplitl [HO]; · iexact HO
      iexact Hr
    isplitl [Hc]; · iexact Hc
    isplitl [Hs]; · iexact Hs
    iexact HX
  refine recv_step m K 0 (recvSem_eq (sh c 0) (k0_off3_eq c 0) _) (slotM_of (sh c 0) (k0_off4_eq c 0) _) ?_
  refine recv_step m K 1 (recvSem_eq (sh c 1) (k0_off3_eq c 1) _) (slotM_of (sh c 1) (k0_off4_eq c 1) _) ?_
  exact ret_step (h _)

theorem part16 {Q : PUnit → sProp 𝕄} {X : sProp 𝕄} (v2 v628 w : BitVec 32)
    (h : iprop(records m K ∗ Rcv m c 5 ∗ X) ⊢ Q ⟨⟩) :
    iprop(records m K ∗ Rcv m c 2 ∗ X) ⊢ wpc c (k0_part16 xM h0 oM h1 sM h2 gM h3 aM h4 bM h5 cM h6 cc0_scratch5 cc0_scratch6 cc0_scratch7 c v2 v628 w) Q := by
  rw [k0_part16_eq_skeleton]
  unfold k0_part16_skel
  simp only [semSignalWord, semWaitWord, Prog.lift, Prog.bind_op, Prog.bind_ret, Prog.pure_eq_ret]
  refine recv_step m K 2 (recvSem_eq (sh c 2) (k0_off3_eq c 2) _) (slotM_of (sh c 2) (k0_off4_eq c 2) _) ?_
  refine recv_step m K 3 (recvSem_eq (sh c 3) (k0_off3_eq c 3) _) (slotM_of (sh c 3) (k0_off4_eq c 3) _) ?_
  refine recv_step m K 4 (recvSem_eq (sh c 4) (k0_off3_eq c 4) _) (slotM_of (sh c 4) (k0_off4_eq c 4) _) ?_
  exact ret_step h

theorem part17 {Q : PUnit → sProp 𝕄} {X : sProp 𝕄} (v2 : BitVec 32)
    (h : iprop(records m K ∗ Rcv m c 9 ∗ X) ⊢ Q ⟨⟩) :
    iprop(records m K ∗ Rcv m c 5 ∗ X) ⊢ wpc c (k0_part17 xM h0 oM h1 sM h2 gM h3 aM h4 bM h5 cM h6 cc0_scratch5 cc0_scratch6 cc0_scratch7 c v2) Q := by
  rw [k0_part17_eq_skeleton]
  unfold k0_part17_skel
  simp only [semSignalWord, semWaitWord, Prog.lift, Prog.bind_op, Prog.bind_ret, Prog.pure_eq_ret]
  refine recv_step m K 5 (recvSem_eq (sh c 5) (k0_off3_eq c 5) _) (slotM_of (sh c 5) (k0_off4_eq c 5) _) ?_
  refine recv_step m K 6 (recvSem_eq (sh c 6) (k0_off3_eq c 6) _) (slotM_of (sh c 6) (k0_off4_eq c 6) _) ?_
  refine recv_step m K 7 (recvSem_eq (sh c 7) (k0_off3_eq c 7) _) (slotM_of (sh c 7) (k0_off4_eq c 7) _) ?_
  refine recv_step m K 8 (recvSem_eq (sh c 8) (k0_off3_eq c 8) _) (slotM_of (sh c 8) (k0_off4_eq c 8) _) ?_
  exact ret_step h

theorem part18 {Q : BitVec 32 → sProp 𝕄} {X : sProp 𝕄} (v2 : BitVec 32)
    (h : ∀ w, iprop(records m K ∗ Rcv m c 13 ∗ X) ⊢ Q w) :
    iprop(records m K ∗ Rcv m c 9 ∗ X) ⊢ wpc c (k0_part18 xM h0 oM h1 sM h2 gM h3 aM h4 bM h5 cM h6 cc0_scratch5 cc0_scratch6 cc0_scratch7 c v2) Q := by
  rw [k0_part18_eq_skeleton]
  unfold k0_part18_skel
  simp only [semSignalWord, semWaitWord, Prog.lift, Prog.bind_op, Prog.bind_ret, Prog.pure_eq_ret]
  refine recv_step m K 9 (recvSem_eq (sh c 9) (k0_off3_eq c 9) _) (slotM_of (sh c 9) (k0_off4_eq c 9) _) ?_
  refine recv_step m K 10 (recvSem_eq (sh c 10) (k0_off3_eq c 10) _) (slotM_of (sh c 10) (k0_off4_eq c 10) _) ?_
  refine recv_step m K 11 (recvSem_eq (sh c 11) (k0_off3_eq c 11) _) (slotM_of (sh c 11) (k0_off4_eq c 11) _) ?_
  refine recv_step m K 12 (recvSem_eq (sh c 12) (k0_off3_eq c 12) _) (slotM_of (sh c 12) (k0_off4_eq c 12) _) ?_
  exact ret_step (h _)

theorem part19 {Q : PUnit → sProp 𝕄} {X : sProp 𝕄} (v2 v718 : BitVec 32)
    (h : iprop(records m K ∗ Swt m c 3 ∗ (bigSep Finset.univ fun j : Fin 15 =>
        iprop(atPos ER (recvCell c (sh c j)) 1 ∅ 0 ∗ slotPts c (sh c j) (gath m))) ∗ X) ⊢ Q ⟨⟩) :
    iprop(records m K ∗ Rcv m c 13 ∗ ((bigSep Finset.univ fun j : Fin 15 => cred (tallyAt (sendCell c j) () N))
        ∗ bigSep Finset.univ fun j : Fin 15 => atPos ER (sendCell c j) 0 ∅ 0) ∗ X)
      ⊢ wpc c (k0_part19 xM h0 oM h1 sM h2 gM h3 aM h4 bM h5 cM h6 cc0_scratch5 cc0_scratch6 cc0_scratch7 c v2 v718) Q := by
  rw [k0_part19_eq_skeleton]
  unfold k0_part19_skel
  simp only [semSignalWord, semWaitWord, Prog.lift, Prog.bind_op, Prog.bind_ret, Prog.pure_eq_ret]
  refine recv_step m K 13 (recvSem_eq (sh c 13) (k0_off3_eq c 13) _) (slotM_of (sh c 13) (k0_off4_eq c 13) _) ?_
  refine recv_step m K 14 (recvSem_eq (sh c 14) (k0_off3_eq c 14) _) (slotM_of (sh c 14) (k0_off4_eq c 14) _) ?_
  refine first (P' := iprop(records m K ∗ Swt m c 0 ∗ (bigSep Finset.univ fun j : Fin 15 =>
        iprop(atPos ER (recvCell c (sh c j)) 1 ∅ 0 ∗ slotPts c (sh c j) (gath m))) ∗ X)) ?_ ?_
  · rw [show (14 : Fin 15).val + 1 = 15 from rfl]
    iintro ⟨#HR, HS, Hc, HX⟩
    ihave HS' := (rcv_end m) $$ HS
    icases HS' with ⟨HO, Hs⟩
    isplitr; · iexact HR
    isplitl [HO Hc]
    · iapply (swt_start m)
      isplitl [HO]; · iexact HO
      iexact Hc
    isplitl [Hs]; · iexact Hs
    iexact HX
  refine sent_step m K 0 (sendSem_eq 0 _) ?_
  refine sent_step m K 1 (sendSem_eq 1 _) ?_
  refine sent_step m K 2 (sendSem_eq 2 _) ?_
  exact ret_step h

theorem part20 {Q : PUnit → sProp 𝕄} {X : sProp 𝕄}
    (h : iprop(records m K ∗ Swt m c 10 ∗ X) ⊢ Q ⟨⟩) :
    iprop(records m K ∗ Swt m c 3 ∗ X) ⊢ wpc c (k0_part20 xM h0 oM h1 sM h2 gM h3 aM h4 bM h5 cM h6 cc0_scratch5 cc0_scratch6 cc0_scratch7 c) Q := by
  rw [k0_part20_eq_skeleton]
  unfold k0_part20_skel
  simp only [semSignalWord, semWaitWord, Prog.lift, Prog.bind_op, Prog.bind_ret, Prog.pure_eq_ret]
  refine sent_step m K 3 (sendSem_eq 3 _) ?_
  refine sent_step m K 4 (sendSem_eq 4 _) ?_
  refine sent_step m K 5 (sendSem_eq 5 _) ?_
  refine sent_step m K 6 (sendSem_eq 6 _) ?_
  refine sent_step m K 7 (sendSem_eq 7 _) ?_
  refine sent_step m K 8 (sendSem_eq 8 _) ?_
  refine sent_step m K 9 (sendSem_eq 9 _) ?_
  exact ret_step h

omit [FloatOps F] in
/-- Something held for every device is held for this one and for each of the others in turn. -/
theorem all_sh (Φ : Dev nD → sProp 𝕄) : bigSep Finset.univ Φ = iprop(Φ c ∗ bigSep Finset.univ fun j : Fin 15 => Φ (sh c j)) := by
  rw [← Finset.insert_erase (Finset.mem_univ c), split_off (Finset.notMem_erase c _), ← image_sh,
    bigSep_image_of_injOn (fun a _ b _ h => sh_injective c h)]

omit [FloatOps F] in
/-- The gather buffer is its slots. -/
theorem gather_slots (f) : holds (F := F) c cc0_scratch1 f = iprop(slotPts c c f ∗ bigSep Finset.univ fun j : Fin 15 => slotPts c (sh c j) f) := by
  rw [← all_sh (fun s => slotPts c s f)]
  unfold slotPts
  have h := pointsTo_biUnion (Ix := Unit) (Name := ℕ) (U := UU) (Lvl := ℕ) (ℓ := ((c : Thread nD τ).loc cc0_scratch1 : Loc nD τ sig)) (q := fullShare) (f := f)
    (Finset.univ : Finset (Dev nD)) (fun s => (slotM s).view.set) slots_disjoint
  rw [slots_cover] at h
  exact h

omit [FloatOps F] in
/-- A whole buffer is sixteen shares of it. -/
theorem send_shares (f : (cc0_scratch0 : Ref sig .tc).ty.Contents (Elt F)) :
    holds (F := F) c cc0_scratch0 f = bigSep Finset.univ fun i : Fin (2 ^ 4) =>
      (sM.view.loc (c : Thread nD τ) ↦[sM.view.set]{leaf 4 fullShare i} f : sProp 𝕄) := by
  rw [show sM.view.set = (Finset.univ : Finset S128x64.Idx) from View.set_whole _]
  exact pointsTo_leaves (ℓ := ((c : Thread nD τ).loc cc0_scratch0 : Loc nD τ sig)) Finset.univ f 4 fullShare

theorem part21 {Q : _ → sProp 𝕄} {X : sProp 𝕄}
    (h : iprop(records m K ∗ holds c cc0_scratch1 (gath m) ∗ Swt m c 15 ∗ (bigSep Finset.univ fun j : Fin 15 => atPos ER (recvCell c (sh c j)) 1 ∅ 0) ∗ X)
        ⊢ Q ⟨k0_pay23 (gath m), laneIx, k0_pay24, k0_pay25, 0#32⟩) :
    iprop(records m K ∗ Swt m c 10 ∗ (slotPts c c (gath m) ∗ bigSep Finset.univ fun j : Fin 15 =>
        iprop(atPos ER (recvCell c (sh c j)) 1 ∅ 0 ∗ slotPts c (sh c j) (gath m))) ∗ X) ⊢ wpc c (k0_part21 xM h0 oM h1 sM h2 gM h3 aM h4 bM h5 cM h6 cc0_scratch5 cc0_scratch6 cc0_scratch7 c) Q := by
  rw [k0_part21_eq_skeleton]
  unfold k0_part21_skel
  simp only [semSignalWord, semWaitWord, Prog.lift, Prog.bind_op, Prog.bind_ret, Prog.pure_eq_ret]
  refine sent_step m K 10 (sendSem_eq 10 _) ?_
  refine sent_step m K 11 (sendSem_eq 11 _) ?_
  refine sent_step m K 12 (sendSem_eq 12 _) ?_
  refine sent_step m K 13 (sendSem_eq 13 _) ?_
  refine sent_step m K 14 (sendSem_eq 14 _) ?_
  refine first ?_ (load_step m K (M := gM) (f := gath m) (gath m) (Memref.readAt_unit_zero (Elt F) cc0_scratch1 zero3 _ _) (ret_step h))
  rw [bigSep_sep']
  iintro ⟨#HR, HS, ⟨Hc, Ha, Hs⟩, HX⟩
  isplitr; · iexact HR
  isplitl [Hc Hs]
  · iapply (Entails.of_eq (gather_slots (F := F) (c := c) (gath m)).symm)
    isplitl [Hc]; · iexact Hc
    iexact Hs
  isplitl [HS]; · iexact HS
  isplitl [Ha]; · iexact Ha
  iexact HX

end Cert.SortProof

end
-- ==== Proof.Whole.lean ====
/- The whole body of the kernel, piece after piece: from what the launch deals a device to its result, its semaphores at zero. -/
module

public import proofs.«01_k».proof.Proof.Body

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

local notation "𝕄" => MT nD τ sig Unit (Elt F) ℕ UU ℕ

set_option maxHeartbeats 1000000

variable (m : (ℓ : Loc nD τ sig) → Buf (Elt F) ℓ) (K : Dev nD × KC → ℕ) {c : Dev nD}
variable {h0 : xM.IsWhole} {h1 : oM.IsWhole} {h2 : sM.IsWhole} {h3 : gM.IsWhole} {h4 : aM.IsWhole} {h5 : bM.IsWhole} {h6 : cM.IsWhole}

/-- A piece, then the rest. -/
theorem bind_step {α β : Type} {p : Prog (TpuEff nD τ sig (Elt F) Λ₀ .tc) α} {k : α → Prog (TpuEff nD τ sig (Elt F) Λ₀ .tc) β}
    {P : sProp 𝕄} {Q : β → sProp 𝕄} (h : P ⊢ wpc c p (fun a => wpc c (k a) Q)) : P ⊢ wpc c (p >>= k) Q := by
  show P ⊢ wp _ _ _ (p >>= k) Q
  rw [wp_bind]
  exact h

/-- A piece that only computes. -/
theorem pure_step {α β : Type} {p : Prog (TpuEff nD τ sig (Elt F) Λ₀ .tc) α} {a : α} (e : p = .ret a)
    {k : α → Prog (TpuEff nD τ sig (Elt F) Λ₀ .tc) β} {P : sProp 𝕄} {Q : β → sProp 𝕄} (h : P ⊢ wpc c (k a) Q) : P ⊢ wpc c (p >>= k) Q := by
  subst e
  exact bind_step (ret_step h)

/-! ## The pieces that halve the packed array -/

theorem part27 {Q : _ → sProp 𝕄} {X : sProp 𝕄} (v808 : IVec S1x128 1) (x y : FVec F S128x1x4x128 .f32) (f)
    (h : iprop(records m K ∗ holds c cc0_scratch2 (if c.val % 8 < 4 then k0_pay47 v808 x y else k0_pay48 v808 x y) ∗ X)
      ⊢ Q ⟨Scalar.muli (Scalar.remsi (myId c) 8#32) 128#32, if c.val % 8 < 4 then k0_pay47 v808 x y else k0_pay48 v808 x y,
          Scalar.andi (Scalar.muli (Scalar.remsi (myId c) 8#32) 128#32) 256#32⟩) :
    iprop(records m K ∗ holds c cc0_scratch2 f ∗ X)
      ⊢ wpc c (k0_part27 xM h0 oM h1 sM h2 gM h3 aM h4 bM h5 cM h6 cc0_scratch5 cc0_scratch6 cc0_scratch7 (myId c) v808 x y) Q := by
  rw [k0_part27_eq_skeleton]
  unfold k0_part27_skel
  simp only [Prog.lift, Prog.bind_op, Prog.bind_ret, Prog.pure_eq_ret]
  refine when_step m K (M := aM) (cond512 c) (k0_pay47 v808 x y) (Memref.write_access_unit_zero_univ (Elt F) cc0_scratch2 zero2 _ f _) ?_
  refine when_step m K (M := aM) (cond512' c) (k0_pay48 v808 x y) (Memref.write_access_unit_zero_univ (Elt F) cc0_scratch2 zero2 _ _ _) ?_
  rw [pick_one]
  refine load_step m K (M := aM) _ (Memref.readAt_unit_zero (Elt F) cc0_scratch2 zero2 _ _) ?_
  exact ret_step h

theorem pick256 (w : FVec F S512x128 .f32) (f : FVec F S256x128 .f32) :
    (if ¬ c.val % 4 < 2 then k0_pay50 w else if c.val % 4 < 2 then k0_pay49 w else f) = half256 c w := pick_one _ _ _
theorem pick128 (w : FVec F S256x128 .f32) (f : FVec F S128x128 .f32) :
    (if ¬ c.val % 2 < 1 then k0_pay52 w else if c.val % 2 < 1 then k0_pay51 w else f) = half128 c w := pick_one _ _ _

theorem part28 {Q : _ → sProp 𝕄} {X : sProp 𝕄} (w : FVec F S512x128 .f32) (f g)
    (h : iprop(records m K ∗ holds c cc0_scratch4 (half128 c (half256 c w)) ∗ holds c cc0_scratch3 (half256 c w) ∗ X)
      ⊢ Q ⟨k0_pay53 (half128 c (half256 c w)), k0_pay54 (half128 c (half256 c w))⟩) :
    iprop(records m K ∗ holds c cc0_scratch3 f ∗ holds c cc0_scratch4 g ∗ X)
      ⊢ wpc c (k0_part28 xM h0 oM h1 sM h2 gM h3 aM h4 bM h5 cM h6 cc0_scratch5 cc0_scratch6 cc0_scratch7
          (Scalar.muli (Scalar.remsi (myId c) 8#32) 128#32) w (Scalar.andi (Scalar.muli (Scalar.remsi (myId c) 8#32) 128#32) 256#32)) Q := by
  rw [k0_part28_eq_skeleton]
  unfold k0_part28_skel
  simp only [Prog.lift, Prog.bind_op, Prog.bind_ret, Prog.pure_eq_ret]
  refine when_step m K (M := bM) (cond256 c) (k0_pay49 w) (Memref.write_access_unit_zero_univ (Elt F) cc0_scratch3 zero2 _ f _) ?_
  refine when_step m K (M := bM) (cond256' c) (k0_pay50 w) (Memref.write_access_unit_zero_univ (Elt F) cc0_scratch3 zero2 _ _ _) ?_
  rw [pick256]
  refine load_step m K (M := bM) (f := half256 c w) (half256 c w) (Memref.readAt_unit_zero (Elt F) cc0_scratch3 zero2 _ _) ?_
  refine first (P' := iprop(records m K ∗ holds c cc0_scratch4 g ∗ holds c cc0_scratch3 (half256 c w) ∗ X)) ?_ ?_
  · iintro ⟨#HR, Hb, Hc, HX⟩
    isplitr; · iexact HR
    isplitl [Hc]; · iexact Hc
    isplitl [Hb]; · iexact Hb
    iexact HX
  refine when_step m K (M := cM) (cond128 c) (k0_pay51 (half256 c w)) (Memref.write_access_unit_zero_univ (Elt F) cc0_scratch4 zero2 _ g _) ?_
  refine when_step m K (M := cM) (cond128' c) (k0_pay52 (half256 c w)) (Memref.write_access_unit_zero_univ (Elt F) cc0_scratch4 zero2 _ _ _) ?_
  rw [pick128]
  refine load_step m K (M := cM) (f := half128 c (half256 c w)) (half128 c (half256 c w)) (Memref.readAt_unit_zero (Elt F) cc0_scratch4 zero2 _ _) ?_
  exact ret_step h

/-- The result's first lanes, kept by the lower eight devices. -/
theorem part29 {Q : _ → sProp 𝕄} {X : sProp 𝕄} (x : FVec F S4x2x16x128 .f32) (y : FVec F S4x1x16x128 .f32) (f)
    (h : iprop(records m K ∗ holds c cc0_stg1_0 (if c.val < 8 then k0_pay56 x y else f) ∗ X) ⊢ Q ⟨k0_pay55 x y, 8#32⟩) :
    iprop(records m K ∗ holds c cc0_stg1_0 f ∗ X)
      ⊢ wpc c (k0_part29 xM h0 oM h1 sM h2 gM h3 aM h4 bM h5 cM h6 cc0_scratch5 cc0_scratch6 cc0_scratch7 (myId c) x y) Q := by
  rw [k0_part29_eq_skeleton]
  unfold k0_part29_skel
  simp only [Prog.lift, Prog.bind_op, Prog.bind_ret, Prog.pure_eq_ret]
  refine when_step m K (M := oM) (condOut c) (k0_pay56 x y) (Memref.write_access_unit_zero_univ (Elt F) cc0_stg1_0 zero2 _ f _) ?_
  exact ret_step h

/-! ## What the launch deals a device, and what it ends with -/

/-- The rights to pay: each signal, each transfer at either end, the local copy. -/
def toks (c : Dev nD) : sProp 𝕄 :=
  iprop((bigSep Finset.univ fun j : Fin 15 => dutyTok ER (barCell (sh c j)) 0 c)
    ∗ (bigSep Finset.univ fun j : Fin 15 => dutyTok ER (recvCell (sh c j) c) 0 c)
    ∗ (bigSep Finset.univ fun j : Fin 15 => dutyTok ER (sendCell c j) 0 c) ∗ dutyTok ER (copyCell c) 0 c)
/-- Its own cells, none of them waited on yet. -/
def poss (c : Dev nD) : sProp 𝕄 :=
  iprop(atPos ER (barCell c) 0 ∅ 0 ∗ (bigSep Finset.univ fun j : Fin 15 => atPos ER (sendCell c j) 0 ∅ 0)
    ∗ (bigSep Finset.univ fun s : Dev nD => atPos ER (recvCell c s) 0 ∅ 0) ∗ atPos ER (copyCell c) 0 ∅ 0)
/-- What the others owe it. -/
def crds (c : Dev nD) : sProp 𝕄 :=
  iprop(cred (tallyAt (barCell c) () 15) ∗ bigSep Finset.univ fun j : Fin 15 => cred (tallyAt (recvCell c (sh c j)) () N))
/-- Its scratch buffers, at some contents. -/
def scratch (c : Dev nD) : sProp 𝕄 :=
  iprop((∃ f, holds c cc0_scratch0 f) ∗ (∃ f, holds c cc0_scratch1 f) ∗ (∃ f, holds c cc0_scratch2 f) ∗ (∃ f, holds c cc0_scratch3 f)
    ∗ ∃ f, holds c cc0_scratch4 f)
/-- Its cells after the last wait. The receive semaphore of its own number is never paid. -/
def ends (c : Dev nD) : sProp 𝕄 :=
  iprop(atPos ER (barCell c) 1 ∅ 0 ∗ (bigSep Finset.univ fun j : Fin 15 => atPos ER (sendCell c j) 1 ∅ 0)
    ∗ (atPos ER (recvCell c c) 0 ∅ 0 ∗ bigSep Finset.univ fun j : Fin 15 => atPos ER (recvCell c (sh c j)) 1 ∅ 0) ∗ atPos ER (copyCell c) 1 ∅ 0)
/-- All its counters at zero. -/
def zeros (c : Dev nD) : sProp 𝕄 :=
  iprop(semVal (barCell c) 0 ∗ bigSep Finset.univ fun k : KO => semVal (kcell (c, .inr k)) 0)

omit [FloatOps F] in
theorem own_cells (Φ : KO → sProp 𝕄) : bigSep Finset.univ Φ
    = iprop((bigSep Finset.univ fun j : Fin 15 => Φ (.inl j)) ∗ (bigSep Finset.univ fun s : Dev nD => Φ (.inr (.inl s))) ∗ Φ (.inr (.inr ()))) := by
  rw [BI.bigSep_univ_sum, BI.bigSep_univ_sum, Finset.univ_unique (α := Unit), bigSep_singleton]
  rfl

theorem close_one (ck : Dev nD × KC) (R : ℕ) (hR : ∀ r, R ≤ r → (sortRd (F := F) m).duties (kcell ck) r = ∅) :
    iprop(records m K ∗ atPos ER (kcell ck) R ∅ 0) ⊢ |={Set.univ}=> semVal (kcell ck) 0 := by
  iintro ⟨#HR, Hat⟩
  iapply (Rounds.cell_close ER (sortRd m) (κ := K ck) (Set.mem_univ _) (fun h => h) (R := R) hR)
  isplitr; · iapply (inv_of m K ck); iexact HR
  iexact Hat

theorem close_all : iprop(records m K ∗ ends c) ⊢ |={Set.univ}=> zeros (F := F) c := by
  have hs : iprop(records m K ∗ bigSep Finset.univ fun j : Fin 15 => atPos ER (sendCell c j) 1 ∅ 0)
      ⊢ |={Set.univ}=> bigSep Finset.univ fun j : Fin 15 => (semVal (sendCell c j) 0 : sProp 𝕄) :=
    (bigSep_with_persistent fun j _ => close_one m K (c, kSend j) 1 (duties_later m _)).trans (bigSep_fupd _ _)
  have hr : iprop(records m K ∗ bigSep Finset.univ fun j : Fin 15 => atPos ER (recvCell c (sh c j)) 1 ∅ 0)
      ⊢ |={Set.univ}=> bigSep Finset.univ fun j : Fin 15 => (semVal (recvCell c (sh c j)) 0 : sProp 𝕄) :=
    (bigSep_with_persistent fun j _ => close_one m K (c, kRecv (sh c j)) 1 (duties_later m _)).trans (bigSep_fupd _ _)
  unfold ends zeros
  rw [own_cells, all_sh (F := F) (c := c) (fun s => semVal (kcell (c, kRecv s)) 0)]
  iintro ⟨#HR, Hb, Hs, ⟨Hr0, Hr⟩, Hc⟩
  imod (close_one m K (c, kBar) 1 (duties_later m _)) $$ [Hb] with Zb
  · isplitr; · iexact HR
    iexact Hb
  imod hs $$ [Hs] with Zs
  · isplitr; · iexact HR
    iexact Hs
  imod (close_one m K (c, kRecv c) 0 (duties_recv_self_all m c)) $$ [Hr0] with Zr0
  · isplitr; · iexact HR
    iexact Hr0
  imod hr $$ [Hr] with Zr
  · isplitr; · iexact HR
    iexact Hr
  imod (close_one m K (c, kCopy) 1 (duties_later m _)) $$ [Hc] with Zc
  · isplitr; · iexact HR
    iexact Hc
  imodintro
  isplitl [Zb]; · iexact Zb
  isplitl [Zs]; · iexact Zs
  isplitl [Zr0 Zr]
  · isplitl [Zr0]; · iexact Zr0
    iexact Zr
  iexact Zc

omit [FloatOps F] in
theorem shares_split (Φ : Fin (2 ^ 4) → sProp 𝕄) : bigSep Finset.univ Φ = iprop(Φ 0 ∗ bigSep Finset.univ fun j : Fin 15 => Φ (shr j)) := by
  have e : (Finset.univ : Finset (Fin (2 ^ 4))) = insert 0 (Finset.univ.image shr) := by decide
  rw [e, split_off (by decide), bigSep_image_of_injOn (fun a _ b _ h => Fin.ext (by have := congrArg Fin.val h; simpa [shr] using this))]

/-- The send buffer, filled: the local copy's share and the transfers'. -/
theorem sent_shares : holds c cc0_scratch0 (sent m c) = iprop(sendPts m c 0 ∗ bigSep Finset.univ fun j : Fin 15 => sendPts m c (shr j)) := by
  rw [send_shares, shares_split]
  rfl

omit [FloatOps F] in
theorem some_slot (j : Fin 15) (f : (cc0_scratch1 : Ref sig .tc).ty.Contents (Elt F)) : slotPts (F := F) c (sh c j) f ⊢ iprop(∃ f, slotPts c (sh c j) f) := by
  iintro H; iexists f; iexact H
omit [FloatOps F] in
theorem some_slots (f : (cc0_scratch1 : Ref sig .tc).ty.Contents (Elt F)) : (bigSep Finset.univ fun j : Fin 15 => slotPts (F := F) c (sh c j) f)
    ⊢ bigSep Finset.univ fun j : Fin 15 => iprop(∃ f, slotPts c (sh c j) f) := bigSep_mono fun j _ => some_slot j f

/-- The signals' start: a token and a slot for each. -/
theorem sig_start : iprop(owing c (O₀ c) ∗ (bigSep Finset.univ fun j : Fin 15 => dutyTok ER (barCell (sh c j)) 0 c) ∗ ∃ f, holds c cc0_scratch1 f)
    ⊢ iprop(Sig (F := F) c 0 ∗ ∃ f, slotPts c c f) := by
  unfold Sig O₀
  rw [ge_zero, bigSep_sep']
  iintro ⟨HO, Ht, %f, Hg⟩
  ihave Hg' := (Entails.of_eq (gather_slots (F := F) (c := c) f)) $$ Hg
  icases Hg' with ⟨H0, Hs⟩
  isplitr [H0]
  · isplitl [HO]; · iexact HO
    isplitl [Ht]; · iexact Ht
    iapply (some_slots (F := F) (c := c) f)
    iexact Hs
  · iexists f; iexact H0

theorem snd_start : iprop(owing c (owedRecv c 0) ∗ (bigSep Finset.univ fun j : Fin 15 => dutyTok ER (recvCell (sh c j) c) 0 c)
      ∗ (bigSep Finset.univ fun j : Fin 15 => dutyTok ER (sendCell c j) 0 c) ∗ (bigSep Finset.univ fun j : Fin 15 => iprop(∃ f, slotPts (sh c j) c f))
      ∗ bigSep Finset.univ fun j : Fin 15 => sendPts m c (shr j)) ⊢ Snd m c 0 := by
  unfold Snd
  rw [ge_zero, lt_zero, bigSep_empty, bigSep_sep', bigSep_sep', bigSep_sep']
  iintro ⟨HO, H1, H2, H3, H4⟩
  isplitl [HO]; · iexact HO
  isplitl [H1 H2 H3 H4]
  · isplitl [H1]; · iexact H1
    isplitl [H2]; · iexact H2
    isplitl [H3]; · iexact H3
    iexact H4
  iempintro

theorem swt_end : Swt m c 15 ⊢ iprop(owing c 0 ∗ (bigSep Finset.univ fun j : Fin 15 => atPos ER (sendCell c j) 1 ∅ 0)
    ∗ bigSep Finset.univ fun j : Fin 15 => sendPts m c (shr j)) := by
  unfold Swt
  rw [lt_end, bigSep_sep', bigSep_sep']
  iintro ⟨HO, -, Ha, Hs⟩
  isplitl [HO]; · iexact HO
  isplitl [Ha]; · iexact Ha
  iexact Hs

end Cert.SortProof

end
-- ==== Proof.Device.lean ====
/- The body as one run. -/
module

public import proofs.«01_k».proof.Proof.Whole

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

local notation "𝕄" => MT nD τ sig Unit (Elt F) ℕ UU ℕ

set_option maxHeartbeats 1000000

variable (m : (ℓ : Loc nD τ sig) → Buf (Elt F) ℓ) (K : Dev nD × KC → ℕ) {c : Dev nD}
variable {h0 : xM.IsWhole} {h1 : oM.IsWhole} {h2 : sM.IsWhole} {h3 : gM.IsWhole} {h4 : aM.IsWhole} {h5 : bM.IsWhole} {h6 : cM.IsWhole}

/-- What the body leaves alone while the blocks travel: the argument, the result's buffer, the three packed buffers. -/
def still (c : Dev nD) (fo : (cc0_stg1_0 : Ref sig .tc).ty.Contents (Elt F)) (f2 : (cc0_scratch2 : Ref sig .tc).ty.Contents (Elt F))
    (f3 : (cc0_scratch3 : Ref sig .tc).ty.Contents (Elt F)) (f4 : (cc0_scratch4 : Ref sig .tc).ty.Contents (Elt F)) : sProp 𝕄 :=
  iprop(holds c cc0_stg0_0 (xstg m c) ∗ holds c cc0_stg1_0 fo ∗ holds c cc0_scratch2 f2 ∗ holds c cc0_scratch3 f3 ∗ holds c cc0_scratch4 f4)

/-- After the last load of the gather buffer: everything but what the body still uses. -/
def rests (c : Dev nD) : sProp 𝕄 :=
  iprop(holds c cc0_scratch1 (gath m) ∗ Swt m c 15 ∗ (bigSep Finset.univ fun j : Fin 15 => atPos ER (recvCell c (sh c j)) 1 ∅ 0)
    ∗ atPos ER (copyCell c) 1 ∅ 0 ∗ sendPts m c 0 ∗ atPos ER (barCell c) 1 ∅ 0 ∗ atPos ER (recvCell c c) 0 ∅ 0)

/-- The end: the send buffer whole again, every cell closed. -/
theorem finish {b : FVec F S128x64 .f32} (hb : outAt m c = b) :
    iprop(records m K ∗ holds c cc0_stg1_0 b ∗ (∃ f, holds c cc0_scratch2 f) ∗ (∃ f, holds c cc0_scratch3 f) ∗ (∃ f, holds c cc0_scratch4 f) ∗ rests m c
    ∗ holds c cc0_stg0_0 (xstg m c))
      ⊢ wpc c (.ret ⟨⟩) (fun _ : PUnit => iprop(owing c 0 ∗ holds c cc0_stg0_0 (xstg m c) ∗ holds c cc0_stg1_0 (outAt m c) ∗ scratch c ∗ zeros c)) := by
  subst hb
  show _ ⊢ wp _ _ _ (Prog.ret _) _
  rw [wp_ret]
  unfold rests
  iintro ⟨#HR, Ho, H2, H3, H4, ⟨Hg, HS, Hr, Ha, H0, Hb, Hp⟩, Hx⟩
  ihave HS' := (swt_end m) $$ HS
  icases HS' with ⟨HO, Hsd, Hsh⟩
  imod (close_all m K (c := c)) $$ [Hr Ha Hb Hp Hsd] with HZ
  · unfold ends
    iframe # ∗
  imodintro
  unfold scratch
  isplitl [HO]; · iexact HO
  isplitl [Hx]; · iexact Hx
  isplitl [Ho]; · iexact Ho
  isplitr [HZ]
  · isplitl [H0 Hsh]
    · iexists (sent m c)
      iapply (Entails.of_eq (sent_shares (F := F) m (c := c)).symm)
      iframe # ∗
    isplitl [Hg]; · iexists _; iexact Hg
    isplitl [H2]; · iexact H2
    isplitl [H3]; · iexact H3
    iexact H4
  iexact HZ

theorem body_at (fo f0 f1 f2 f3 f4) :
    iprop(records m K ∗ owing c (O₀ c) ∗ toks c ∗ poss c ∗ crds c ∗ still m c fo f2 f3 f4 ∗ holds c cc0_scratch0 f0 ∗ holds c cc0_scratch1 f1)
      ⊢ wpc c (cc0_body xM h0 oM h1 sM h2 gM h3 aM h4 bM h5 cM h6 cc0_scratch5 cc0_scratch6 cc0_scratch7) (fun _ => iprop(owing c 0 ∗ holds c cc0_stg0_0 (xstg m c) ∗ holds c cc0_stg1_0 (outAt m c) ∗ scratch c ∗ zeros c)) := by
  rw [cc0_body_eq_skeleton]
  unfold cc0_body_skel
  -- the block, sorted
  refine first (P' := iprop(records m K ∗ holds c cc0_stg0_0 (xstg m c) ∗ owing c (O₀ c) ∗ toks c ∗ poss c ∗ crds c
    ∗ holds c cc0_stg1_0 fo ∗ holds c cc0_scratch2 f2 ∗ holds c cc0_scratch3 f3 ∗ holds c cc0_scratch4 f4 ∗ holds c cc0_scratch0 f0 ∗ holds c cc0_scratch1 f1)) ?_ ?_
  · unfold still
    iintro ⟨#HR, HO, Ht, Hp, Hc, ⟨Hx, Ho, H2, H3, H4⟩, H0, H1⟩
    iframe # ∗
  refine bind_step (part1 m K (xstg m c) ?_)
  refine pure_step (by rw [k0_part2_eq_skeleton]; rfl) ?_
  refine pure_step (by rw [k0_part3_eq_skeleton]; rfl) ?_
  refine pure_step (by rw [k0_part4_eq_skeleton]; rfl) ?_
  refine pure_step (by rw [k0_part5_eq_skeleton]; rfl) ?_
  refine pure_step (by rw [k0_part6_eq_skeleton]; rfl) ?_
  refine pure_step (by rw [k0_part7_eq_skeleton]; rfl) ?_
  -- the signals
  refine first (P' := iprop(records m K ∗ holds c cc0_scratch0 f0 ∗ Sig c 0 ∗ (∃ f, slotPts c c f)
    ∗ (bigSep Finset.univ fun j : Fin 15 => dutyTok ER (recvCell (sh c j) c) 0 c) ∗ (bigSep Finset.univ fun j : Fin 15 => dutyTok ER (sendCell c j) 0 c)
    ∗ dutyTok ER (copyCell c) 0 c ∗ poss c ∗ crds c ∗ still m c fo f2 f3 f4)) ?_ ?_
  · unfold still toks
    iintro ⟨#HR, Hx, HO, ⟨Ht1, Ht2, Ht3, Ht4⟩, Hp, Hc, Ho, H2, H3, H4, H0, H1⟩
    ihave HS := (sig_start (F := F) (c := c)) $$ [HO Ht1 H1]
    · isplitl [HO]; · iexact HO
      isplitl [Ht1]; · iexact Ht1
      iexists f1; iexact H1
    icases HS with ⟨HS, Hs0⟩
    iframe # ∗
  refine bind_step (part8 m K _ f0 fun w1 => ?_)
  show iprop(records m K ∗ Sig c 4 ∗ holds c cc0_scratch0 (sent m c) ∗ _) ⊢ _
  refine bind_step (part9 m K _ _ _ fun w2 => ?_)
  -- the barrier's wait, the local copy
  refine first (P' := iprop(records m K ∗ Sig c 10 ∗ (cred (tallyAt (barCell c) () 15) ∗ atPos ER (barCell c) 0 ∅ 0)
        ∗ (sendPts m c 0 ∗ (∃ f, slotPts c c f) ∗ dutyTok ER (copyCell c) 0 c)
    ∗ (bigSep Finset.univ fun j : Fin 15 => dutyTok ER (recvCell (sh c j) c) 0 c) ∗ (bigSep Finset.univ fun j : Fin 15 => dutyTok ER (sendCell c j) 0 c)
    ∗ (bigSep Finset.univ fun j : Fin 15 => sendPts m c (shr j))
    ∗ (bigSep Finset.univ fun j : Fin 15 => atPos ER (sendCell c j) 0 ∅ 0) ∗ (bigSep Finset.univ fun s : Dev nD => atPos ER (recvCell c s) 0 ∅ 0)
    ∗ atPos ER (copyCell c) 0 ∅ 0 ∗ (bigSep Finset.univ fun j : Fin 15 => cred (tallyAt (recvCell c (sh c j)) () N)) ∗ still m c fo f2 f3 f4)) ?_ ?_
  · unfold poss crds
    iintro ⟨#HR, HS, H0, Hs0, Ht2, Ht3, Ht4, ⟨Hp1, Hp2, Hp3, Hp4⟩, ⟨Hc1, Hc2⟩, Hst⟩
    ihave H0' := (Entails.of_eq (sent_shares (F := F) m (c := c))) $$ H0
    icases H0' with ⟨H00, H0⟩
    iframe # ∗
  refine bind_step (part10 m K _ _ _ ?_)
  -- the transfers
  refine first (P' := iprop(records m K ∗ Snd m c 0 ∗ cred (tallyAt (copyCell c) () N) ∗ atPos ER (barCell c) 1 ∅ 0
    ∗ (bigSep Finset.univ fun j : Fin 15 => atPos ER (sendCell c j) 0 ∅ 0) ∗ (bigSep Finset.univ fun s : Dev nD => atPos ER (recvCell c s) 0 ∅ 0)
    ∗ atPos ER (copyCell c) 0 ∅ 0 ∗ (bigSep Finset.univ fun j : Fin 15 => cred (tallyAt (recvCell c (sh c j)) () N)) ∗ still m c fo f2 f3 f4)) ?_ ?_
  · iintro ⟨#HR, Hcc, HO, Hb, Hsl, Ht2, Ht3, H0, Hp2, Hp3, Hp4, Hc2, Hst⟩
    ihave HS := (snd_start (F := F) m (c := c)) $$ [HO Ht2 Ht3 Hsl H0]
    · iframe # ∗
    iframe # ∗
  refine bind_step (part11 m K _ ?_)
  refine bind_step (part12 m K _ fun w3 => ?_)
  refine bind_step (part13 m K _ _ ?_)
  refine bind_step (part14 m K _ ?_)
  -- the receive waits
  refine first (P' := iprop(records m K ∗ Snd m c 13 ∗ (cred (tallyAt (copyCell c) () N) ∗ atPos ER (copyCell c) 0 ∅ 0)
    ∗ (bigSep Finset.univ fun j : Fin 15 => iprop(cred (tallyAt (recvCell c (sh c j)) () N) ∗ atPos ER (recvCell c (sh c j)) 0 ∅ 0))
    ∗ atPos ER (barCell c) 1 ∅ 0 ∗ (bigSep Finset.univ fun j : Fin 15 => atPos ER (sendCell c j) 0 ∅ 0) ∗ atPos ER (recvCell c c) 0 ∅ 0
    ∗ still m c fo f2 f3 f4)) ?_ ?_
  · rw [all_sh (F := F) (c := c) (fun s => atPos ER (recvCell c s) 0 ∅ 0), bigSep_sep' (s := Finset.univ) (fun j : Fin 15 => (cred (tallyAt (recvCell c (sh c j)) () N) : sProp 𝕄))]
    iintro ⟨#HR, HS, Hcc, Hb, Hp2, ⟨Hp3, Hp3'⟩, Hp4, Hc2, Hst⟩
    iframe # ∗
  refine bind_step (part15 m K _ fun w4 => ?_)
  refine bind_step (part16 m K _ _ _ ?_)
  refine bind_step (part17 m K _ ?_)
  refine bind_step (part18 m K _ fun w5 => ?_)
  -- the send waits
  refine first (P' := iprop(records m K ∗ Rcv m c 13 ∗ ((bigSep Finset.univ fun j : Fin 15 => cred (tallyAt (sendCell c j) () N))
        ∗ bigSep Finset.univ fun j : Fin 15 => atPos ER (sendCell c j) 0 ∅ 0)
    ∗ slotPts c c (gath m) ∗ atPos ER (copyCell c) 1 ∅ 0 ∗ sendPts m c 0 ∗ atPos ER (barCell c) 1 ∅ 0 ∗ atPos ER (recvCell c c) 0 ∅ 0 ∗ still m c fo f2 f3 f4)) ?_ ?_
  · iintro ⟨#HR, HS, ⟨Ha, Hsl, H0⟩, Hcs, Hb, Hp2, Hp3, Hst⟩
    iframe # ∗
  refine bind_step (part19 m K _ _ ?_)
  refine bind_step (part20 m K ?_)
  refine first (P' := iprop(records m K ∗ Swt m c 10 ∗ (slotPts c c (gath m) ∗ bigSep Finset.univ fun j : Fin 15 =>
        iprop(atPos ER (recvCell c (sh c j)) 1 ∅ 0 ∗ slotPts c (sh c j) (gath m)))
    ∗ atPos ER (copyCell c) 1 ∅ 0 ∗ sendPts m c 0 ∗ atPos ER (barCell c) 1 ∅ 0 ∗ atPos ER (recvCell c c) 0 ∅ 0 ∗ still m c fo f2 f3 f4)) ?_ ?_
  · iintro ⟨#HR, HS, Hr, Hsl, Hrest⟩
    isplitr; · iexact HR
    isplitl [HS]; · iexact HS
    isplitl [Hsl Hr]
    · isplitl [Hsl]; · iexact Hsl
      iexact Hr
    iexact Hrest
  refine bind_step (part21 m K ?_)
  -- the merge
  refine pure_step (by rw [k0_part22_eq_skeleton]; rfl) ?_
  refine pure_step (by rw [k0_part23_eq_skeleton]; rfl) ?_
  refine pure_step (by rw [k0_part24_eq_skeleton]; rfl) ?_
  refine pure_step (by rw [k0_part25_eq_skeleton]; rfl) ?_
  refine pure_step (by rw [k0_part26_eq_skeleton]; rfl) ?_
  refine first (P' := iprop(records m K ∗ holds c cc0_scratch2 f2 ∗ rests m c
    ∗ holds c cc0_stg0_0 (xstg m c) ∗ holds c cc0_stg1_0 fo ∗ holds c cc0_scratch3 f3 ∗ holds c cc0_scratch4 f4)) ?_ ?_
  · unfold rests still
    iintro ⟨#HR, Hg, HS, Hr, Ha, H0, Hb, Hp, ⟨Hx, Ho, H2, H3, H4⟩⟩
    iframe # ∗
  refine bind_step (part27 m K upperLanes (beforeLo (gath m)).1 (beforeLo (gath m)).2 f2 ?_)
  refine first (P' := iprop(records m K ∗ holds c cc0_scratch3 f3 ∗ holds c cc0_scratch4 f4 ∗ holds c cc0_scratch2 (half512 c (gath m)) ∗ rests m c
    ∗ holds c cc0_stg0_0 (xstg m c) ∗ holds c cc0_stg1_0 fo)) ?_ ?_
  · iintro ⟨#HR, H2, Hrest, Hx, Ho, H3, H4⟩
    isplitr; · iexact HR
    isplitl [H3]; · iexact H3
    isplitl [H4]; · iexact H4
    isplitl [H2]; · iexact H2
    isplitl [Hrest]; · iexact Hrest
    isplitl [Hx]; · iexact Hx
    iexact Ho
  refine bind_step (part28 m K (half512 c (gath m)) f3 f4 ?_)
  refine first (P' := iprop(records m K ∗ holds c cc0_stg1_0 fo ∗ (∃ f, holds c cc0_scratch2 f) ∗ (∃ f, holds c cc0_scratch3 f) ∗ (∃ f, holds c cc0_scratch4 f) ∗ rests m c
    ∗ holds c cc0_stg0_0 (xstg m c))) ?_ ?_
  · iintro ⟨#HR, H4, H3, H2, Hrest, Hx, Ho⟩
    isplitr; · iexact HR
    isplitl [Ho]; · iexact Ho
    isplitl [H2]; · iexists _; iexact H2
    isplitl [H3]; · iexists _; iexact H3
    isplitl [H4]; · iexists _; iexact H4
    isplitl [Hrest]; · iexact Hrest
    iexact Hx
  refine bind_step (part29 m K _ _ fo ?_)
  simp only [Prog.lift, Prog.bind_op, Prog.bind_ret, Prog.pure_eq_ret]
  refine when_step m K (M := oM) (condOut' c) _ (Memref.write_access_unit_zero_univ (Elt F) cc0_stg1_0 zero2 _ _ _) ?_
  rw [pick_one]
  exact finish m K rfl

end Cert.SortProof

end
-- ==== Proof.Run.lean ====
/- The launch: what the sixteen devices are dealt, what they owe each other, and the run of the whole program. -/
module

public import Idealize.ShloMosaic.Lib.Pipeline.CollectiveSegs
public import proofs.«01_k».proof.Proof.Device

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

local notation "𝕄" => MT nD τ sig Unit (Elt F) ℕ UU ℕ

set_option maxHeartbeats 1000000

variable (m : (ℓ : Loc nD τ sig) → Buf (Elt F) ℓ) (ρ : Dev nD → PrngReg)

/-- The memory the program starts from: counters at zero. -/
def s₀ : MemSt nD τ sig (Elt F) := ⟨m, fun _ => 0, ρ⟩

/-! ## What a device starts its one grid point with, and ends it with -/

/-- The cells' records at the names `K`, the device's tokens and positions. -/
def ghost (K : Dev nD × KC → ℕ) (c : Dev nD) : sProp 𝕄 :=
  iprop(((bigSep Finset.univ fun ck : Dev nD × KC => cellInv ER (sortRd m) (K ck) (kcell ck))
    ∗ bigSep Finset.univ fun ck : Dev nD × KC => reached ER (kcell ck) 0) ∗ toks c ∗ poss c)
def G' (c : Dev nD) : sProp 𝕄 := iprop(∃ K, ghost m K c)
def start (c : Dev nD) : sProp 𝕄 := iprop(G' m c ∗ crds c ∗ levAts L lv)
def Φ₀ (c : Dev nD) : sProp 𝕄 := iprop(start m c ∗ scratch c)
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t
  have := cfg0_N
  exact Fin.ext (by simp only [t₀]; omega)
theorem fetch_x (t : Fin cfg0.N) : (cfg0.win (0 : Fin 2)).fetch t = true := by rw [fin_N t]; rfl

/-- A staging buffer owned whole is its buffer, held at what it holds. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (xstg m c) ∗ stg c cc0_stg1_0 (outAt m c))

/-- What the body starts from, out of what the pipeline hands it. -/
theorem pre_open (c : Dev nD) : bodyPre m ρ c ⊢ iprop(∃ (K : Dev nD × KC → ℕ) (fo : (cc0_stg1_0 : Ref sig .tc).ty.Contents (Elt F))
    (f0 : (cc0_scratch0 : Ref sig .tc).ty.Contents (Elt F)) (f1 : (cc0_scratch1 : Ref sig .tc).ty.Contents (Elt F))
    (f2 : (cc0_scratch2 : Ref sig .tc).ty.Contents (Elt F)) (f3 : (cc0_scratch3 : Ref sig .tc).ty.Contents (Elt F))
    (f4 : (cc0_scratch4 : Ref sig .tc).ty.Contents (Elt F)),
    records m K ∗ owing c (O₀ c) ∗ toks c ∗ poss c ∗ crds c ∗ still m c fo f2 f3 f4 ∗ holds c cc0_scratch0 f0 ∗ holds c cc0_scratch1 f1) := by
  unfold bodyPre Φ₀ start G' ghost scratch Dat.owesAt Pipeline.owesWithin records owing still
  rw [show (dats m ρ 0 c).owed t₀.castSucc = O₀ c from rfl]
  iintro ⟨⟨⟨⟨%K, ⟨HI, HR⟩, Ht, Hp⟩, Hc, HL⟩, ⟨%f0, H0⟩, ⟨%f1, H1⟩, ⟨%f2, H2⟩, ⟨%f3, H3⟩, ⟨%f4, H4⟩⟩, ⟨%W, %hW, HO⟩, ⟨%d0, %g0, %hg0, Hx⟩, ⟨%d1, %g1, %hg1, Ho⟩⟩
  have hx : g0 = xstg m c := by
    rw [hg0]; unfold Dat.before; rw [if_pos (fetch_x t₀)]; rfl
  subst hx
  iexists K; iexists g1; iexists f0; iexists f1; iexists f2; iexists f3; iexists f4
  isplitl [HI HR HL]; · iframe ∗
  isplitl [HO]; · iexists W; iexact HO
  iframe ∗

/-- What it ends with, as the pipeline takes it. -/
theorem post_close (c : Dev nD) :
    iprop(owing c 0 ∗ holds c cc0_stg0_0 (xstg m c) ∗ holds c cc0_stg1_0 (outAt m c) ∗ scratch c ∗ zeros c) ⊢ bodyPost m ρ c := by
  unfold bodyPost Φ₁ owing Dat.owesAt Pipeline.owesWithin
  rw [show (dats m ρ 0 c).owed t₀.succ = 0 from rfl]
  iintro ⟨⟨%W, HO⟩, Hx, Ho, Hs, Hz⟩
  isplitl [Hs Hz]
  · isplitl [Hs]; · iexact Hs
    iexact Hz
  isplitl [HO]
  · iexists W
    isplitr; · ipureintro; exact fun _ _ => Or.inl trivial
    iexact HO
  isplitl [Hx]
  · iexists _
    isplitr; · (ipureintro; rfl)
    iexact Hx
  iexists _
  isplitr; · (ipureintro; rfl)
  iexact Ho

theorem wp_weaken {α : Type} {p : Prog (TpuEff nD τ sig (Elt F) Λ₀ .tc) α} {c : Dev nD} {P : sProp 𝕄} {Q Q' : α → sProp 𝕄}
    (h : P ⊢ wpc c p Q) (hQ : ∀ a, Q a ⊢ Q' a) : P ⊢ wpc c p Q' := h.trans (wp_mono _ _ _ hQ)

set_option maxRecDepth 20000 in
/-- The pipeline's obligation for the one grid point. -/
theorem body_obligation (c : Dev nD) : BodyObligation (dats (F := F) m ρ 0 c) (defs₀ (F := F)) 𝒱₀ () Set.univ := fun t => by
  rw [fin_N t]
  rw [bigSep_W0, bigSep_W0]
  simp only [owns_stg]
  show bodyPre m ρ c ⊢ wpc c (cc0_body xM (Memref.isWhole_whole _) oM (Memref.isWhole_whole _) sM (Memref.isWhole_whole _) gM (Memref.isWhole_whole _)
      aM (Memref.isWhole_whole _) bM (Memref.isWhole_whole _) cM (Memref.isWhole_whole _) cc0_scratch5 cc0_scratch6 cc0_scratch7) (fun _ => bodyPost m ρ c)
  refine (pre_open m ρ c).trans ?_
  iintro ⟨%K, %fo, %f0, %f1, %f2, %f3, %f4, H⟩
  iapply (wp_weaken (body_at m K fo f0 f1 f2 f3 f4) fun _ => post_close m ρ c)
  iexact H

/-! ## The launch -/

theorem share_eq (c : Dev nD) (w : Fin cfg0.W) : (dats m ρ 0 c).share w = fullShare := by unfold Dat.share; split <;> rfl

theorem kcell_injective : Function.Injective (kcell : Dev nD × KC → GSem nD τ sig) := by
  rintro ⟨c, k⟩ ⟨c', k'⟩ h
  obtain rfl : c = c' := congrArg (fun g : GSem nD τ sig => g.1.1) h
  obtain rfl : k = k' := csem_injective (congrArg Prod.snd h)
  rfl
def allCells : Finset (GSem nD τ sig) := Finset.univ.map ⟨kcell, kcell_injective⟩

/-- The tokens by the device that pays with them: its signals, its transfers' landings, their leavings, its copy. -/
abbrev TK : Type := Fin 15 ⊕ (Fin 15 ⊕ (Fin 15 ⊕ Unit))
def tokCell (p : Dev nD) : TK → GSem nD τ sig
  | .inl j => barCell (sh p j)
  | .inr (.inl j) => recvCell (sh p j) p
  | .inr (.inr (.inl j)) => sendCell p j
  | .inr (.inr (.inr _)) => copyCell p
def tokOf (pt : Dev nD × TK) : GSem nD τ sig × ℕ × Dev nD := (tokCell pt.1 pt.2, 0, pt.1)
theorem tokCell_injective (p : Dev nD) : Function.Injective (tokCell p) := by
  have hdma {a b : GSem nD τ sig} (h : a = b) : a.2 = b.2 := congrArg Prod.snd h
  have hdev {a b : GSem nD τ sig} (h : a = b) : a.1.1 = b.1.1 := congrArg (fun g : GSem nD τ sig => g.1.1) h
  have hnum (q q' : DmaSem sig) (h : (SemLoc.dma q : SemLoc sig) = .dma q') : q.val = q'.val := by cases h; rfl
  have hp : p.val < 16 := p.isLt
  rintro (j | j | j | j) (k | k | k | k) h
  · exact congrArg _ (sh_injective p (hdev h))
  · cases hdma h
  · cases hdma h
  · cases hdma h
  · cases hdma h
  · exact congrArg (fun j => Sum.inr (Sum.inl j)) (sh_injective p (hdev h))
  · have := hnum _ _ (hdma h); have hj := j.isLt; have hk := k.isLt; simp only at this; omega
  · have := hnum _ _ (hdma h); simp only at this; omega
  · cases hdma h
  · have := hnum _ _ (hdma h); have hj := j.isLt; have hk := k.isLt; simp only at this; omega
  · have := hnum _ _ (hdma h); simp only at this; exact congrArg (fun j => Sum.inr (Sum.inr (Sum.inl j))) (Fin.ext (by omega))
  · have := hnum _ _ (hdma h); have hj := j.isLt; simp only at this; omega
  · cases hdma h
  · have := hnum _ _ (hdma h); simp only at this; omega
  · have := hnum _ _ (hdma h); have hk := k.isLt; simp only at this; omega
  · rfl
theorem tokOf_injective : Function.Injective tokOf := by
  rintro ⟨p, t⟩ ⟨p', t'⟩ h
  obtain rfl : p = p' := congrArg (fun x : GSem nD τ sig × ℕ × Dev nD => x.2.2) h
  obtain rfl : t = t' := tokCell_injective p (congrArg Prod.fst h)
  rfl
def allToks : Finset (GSem nD τ sig × ℕ × Dev nD) := Finset.univ.map ⟨tokOf, tokOf_injective⟩

/-- The launch's ghost element: the pipeline's and the schedule's. -/
def u₀ : UU := (initOf (Pipeline.cells cfgs cellOf_inj) (Pipeline.launchToks cfgs cellOf_inj), initOf allCells allToks)

/-- What it deals device `c`. -/
def G (c : Dev nD) : sProp 𝕄 :=
  iprop((bigSep Finset.univ fun k : KC => roundState ER (sortRd m) (kcell (c, k)) 0)
    ∗ ((bigSep Finset.univ fun k : KC => atPos ER (kcell (c, k)) 0 ∅ 0) ∗ bigSep Finset.univ fun k : KC => reached ER (kcell (c, k)) 0) ∗ toks c)

omit [FloatOps F] in
theorem toks_eq (c : Dev nD) : (toks c : sProp 𝕄) = bigSep Finset.univ fun t : TK => dutyTok ER (tokCell c t) 0 c := by
  rw [BI.bigSep_univ_sum, BI.bigSep_univ_sum, BI.bigSep_univ_sum, Finset.univ_unique (α := Unit), bigSep_singleton]
  rfl
omit [FloatOps F] in
theorem cells_eq (Φ : KC → sProp 𝕄) : bigSep Finset.univ Φ = iprop(Φ kBar ∗ bigSep Finset.univ fun k : KO => Φ (.inr k)) := by
  rw [BI.bigSep_univ_sum, Finset.univ_unique (α := Unit), bigSep_singleton]
  rfl
omit [FloatOps F] in
theorem poss_eq (c : Dev nD) : (poss c : sProp 𝕄) = bigSep Finset.univ fun k : KC => atPos ER (kcell (c, k)) 0 ∅ 0 := by
  rw [cells_eq, own_cells]
  rfl

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KC => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => (toks_eq c).symm
  iintro HX
  imod (Rounds.fund ER (sortRd m) allCells allToks) $$ HX with ⟨Hst, Hr, Hat, Htok⟩
  imodintro
  ihave Hst' := (Entails.of_eq (hX fun g => roundState ER (sortRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe ∗

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's cells put under invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KC => iprop(∃ κ : ℕ, cellInv ER (sortRd m) κ (kcell (c, k))))
          ∗ ((bigSep Finset.univ fun k : KC => atPos ER (kcell (c, k)) 0 ∅ 0) ∗ bigSep Finset.univ fun k : KC => reached ER (kcell (c, k)) 0) ∗ toks c) := by
  have hv : iprop(Pipeline.ownSems0 (Ix := Unit) (Name := ℕ) (U := UU) (Lvl := ℕ) (Val := Elt F) (τ := τ) osem c ∗ unscopedSems0 c)
      ⊢ (bigSep Finset.univ fun k : KC => semVal (kcell (c, k)) 0 : sProp 𝕄) := by
    rw [unscopedSems0_eq, cells_eq]
    unfold Pipeline.ownSems0
    iintro ⟨H, Hb⟩
    isplitl [Hb]; · iexact Hb
    iexact H
  have hi : iprop((bigSep Finset.univ fun k : KC => semVal (kcell (c, k)) 0) ∗ bigSep Finset.univ fun k : KC => roundState ER (sortRd m) (kcell (c, k)) 0)
      ⊢ (|={Set.univ}=> bigSep Finset.univ fun k : KC => iprop(∃ κ : ℕ, cellInv ER (sortRd m) κ (kcell (c, k))) : sProp 𝕄) := by
    rw [← bigSep_sep']
    exact (bigSep_mono fun k _ => (Rounds.body_intro ER (sortRd m) (kcell (c, k))).trans inv_alloc).trans (bigSep_fupd _ _)
  unfold G
  iintro ⟨Hos, Hus, Hst, Hat, Htok⟩
  ihave Hv := hv $$ [Hos Hus]
  · isplitl [Hos] <;> iassumption
  imod hi $$ [Hv Hst] with Hinv
  · isplitl [Hv] <;> iassumption
  imodintro
  isplitl [Hinv]; · iexact Hinv
  isplitl [Hat]; · iexact Hat
  iexact Htok

/-- The names gathered, the records shared out. -/
theorem regroup :
    (bigSep Finset.univ fun c : Dev nD => iprop((bigSep Finset.univ fun k : KC => iprop(∃ κ : ℕ, cellInv ER (sortRd m) κ (kcell (c, k))))
          ∗ ((bigSep Finset.univ fun k : KC => atPos ER (kcell (c, k)) 0 ∅ 0) ∗ bigSep Finset.univ fun k : KC => reached ER (kcell (c, k)) 0) ∗ toks c) : sProp 𝕄)
      ⊢ bigSep Finset.univ (G' m) := by
  rw [bigSep_sep', bigSep_sep', bigSep_sep', ← bigSep_univ_prod (fun ck : Dev nD × KC => iprop(∃ κ : ℕ, cellInv ER (sortRd m) κ (kcell ck))),
    ← bigSep_univ_prod (fun ck : Dev nD × KC => (reached ER (kcell ck) 0 : sProp 𝕄)),
    bigSep_congr (s := Finset.univ) (fun (c : Dev nD) _ => (poss_eq (F := F) c).symm)]
  iintro ⟨HI, ⟨Hat, #HR⟩, Htok⟩
  ihave HK := (BI.bigSep_exists_pi Finset.univ (fun (ck : Dev nD × KC) (κ : ℕ) => (cellInv ER (sortRd m) κ (kcell ck) : sProp 𝕄))) $$ HI
  icases HK with ⟨%K, #HI⟩
  iapply (bigSep_with_persistent (R := iprop((bigSep Finset.univ fun ck : Dev nD × KC => cellInv ER (sortRd m) (K ck) (kcell ck))
      ∗ bigSep Finset.univ fun ck : Dev nD × KC => reached ER (kcell ck) 0)) (S := Finset.univ) (Φ := fun c : Dev nD => iprop(toks c ∗ poss c))
      (Ψ := G' m) fun c _ => by
    unfold G' ghost
    iintro H
    iexists K
    iexact H)
  isplitr
  · isplitl; · iexact HI
    iexact HR
  · rw [bigSep_sep']
    isplitl [Htok]; · iexact Htok
    iexact Hat

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### What the others owe a device -/

theorem sum_apply (S : Finset (Fin 15)) (f : Fin 15 → CellTallies nD τ sig Unit) (g : GSem nD τ sig) : (∑ j ∈ S, f j) g () = ∑ j ∈ S, f j g () := by
  rw [Finset.sum_apply, Finsupp.finset_sum_apply]
theorem bar_iff {a b : Dev nD} : barCell a = barCell b ↔ a = b :=
  ⟨fun h => congrArg (fun g : GSem nD τ sig => g.1.1) h, fun h => h ▸ rfl⟩
theorem recv_iff {a b s t : Dev nD} : recvCell a s = recvCell b t ↔ a = b ∧ s = t := by
  constructor
  · intro h
    refine ⟨congrArg (fun g : GSem nD τ sig => g.1.1) h, Fin.ext ?_⟩
    have h2 : (SemLoc.dma (recvS s) : SemLoc sig) = .dma (recvS t) := congrArg Prod.snd h
    have hq : ∀ q q' : DmaSem sig, (SemLoc.dma q : SemLoc sig) = .dma q' → q.val = q'.val := fun q q' h => by cases h; rfl
    have h3 : (recvS s).val = (recvS t).val := hq _ _ h2
    have h4 : s.val + 17 = t.val + 17 := h3
    omega
  · rintro ⟨rfl, rfl⟩; rfl

theorem owed_bar (d c : Dev nD) : O₀ d (barCell c) () = ∑ j : Fin 15, if c = sh d j then 1 else 0 := by
  unfold O₀ owedRecv owedBar
  rw [Pi.add_apply, Finsupp.add_apply, sum_apply, sum_apply, ge_zero,
    Finset.sum_eq_zero (fun j _ => by rw [tallyAt_ne_cell (fun h => by cases congrArg Prod.snd h)]; rfl), Nat.zero_add]
  refine Finset.sum_congr rfl fun j _ => ?_
  rw [tallyAt_apply]
  by_cases h : c = sh d j
  · rw [if_pos h, if_pos ⟨bar_iff.mpr h, rfl⟩]
  · rw [if_neg h, if_neg (fun h' => h (bar_iff.mp h'.1))]
theorem owed_recv (d c s : Dev nD) : O₀ d (recvCell c s) () = ∑ j : Fin 15, if c = sh d j ∧ s = d then N else 0 := by
  unfold O₀ owedRecv owedBar
  rw [Pi.add_apply, Finsupp.add_apply, sum_apply, sum_apply, ge_zero,
    Finset.sum_eq_zero (s := Finset.univ) (f := fun j => (tallyAt (barCell (sh d j)) () 1 : CellTallies nD τ sig Unit) (recvCell c s) ())
      (fun j _ => by rw [tallyAt_ne_cell (fun h => by cases congrArg Prod.snd h)]; rfl), Nat.add_zero]
  refine Finset.sum_congr rfl fun j _ => ?_
  rw [tallyAt_apply]
  by_cases h : c = sh d j ∧ s = d
  · rw [if_pos h, if_pos ⟨recv_iff.mpr h, rfl⟩]
  · rw [if_neg h, if_neg (fun h' => h (recv_iff.mp h'.1))]

theorem bar_total (c : Dev nD) : (∑ d : Dev nD, ∑ j : Fin 15, if c = sh d j then 1 else 0) = 15 := by revert c; decide
theorem sh_back (c : Dev nD) (r : Fin 15) : ∃ j, c = sh (sh c r) j := by revert c r; decide
theorem recv_total (c : Dev nD) (r : Fin 15) : (∑ d : Dev nD, ∑ j : Fin 15, if c = sh d j ∧ sh c r = d then N else 0) = N := by
  obtain ⟨j, hj⟩ := sh_back c r
  rw [Finset.sum_eq_single (sh c r) (fun d _ hd => Finset.sum_eq_zero fun j _ => if_neg fun h => hd h.2.symm) (fun h => absurd (Finset.mem_univ _) h),
    Finset.sum_eq_single j (fun k _ hk => if_neg fun h => hk (sh_injective (sh c r) (h.1.symm.trans hj))) (fun h => absurd (Finset.mem_univ _) h),
    if_pos ⟨hj, rfl⟩]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, bar_total]
theorem launch_recv (c : Dev nD) (r : Fin 15) :
    tallyOn (recvCell c (sh c r)) (launchCredit (Pipeline.owing O₀) 0 (recvCell c (sh c r))) = (tallyAt (recvCell c (sh c r)) () N : CellTallies nD τ sig Unit) := by
  unfold tallyAt; refine congrArg _ (Finsupp.ext fun u => ?_); cases u
  rw [Pipeline.launchCredit_owing, Finsupp.single_eq_same, Finset.sum_congr rfl fun d _ => owed_recv d c (sh c r), recv_total]

def recvLoc (c : Dev nD) (j : Fin 15) : SemLoc sig := .dma (recvS (sh c j))
theorem recvLoc_injective (c : Dev nD) : Function.Injective (recvLoc c) := fun a b h =>
  sh_injective c (recv_iff.mp (congrArg (fun sm => (((c : Thread nD τ), sm) : GSem nD τ sig)) h : recvCell c (sh c a) = recvCell c (sh c b))).2

theorem recvLoc_ne (c : Dev nD) (j : Fin 15) : recvLoc c j ≠ SemLoc.reg barS := by unfold recvLoc; intro h; cases h

omit [FloatOps F] in
theorem pick_some {I J : Type} [Fintype I] [DecidableEq I] [Fintype J] [DecidableEq J] (Φ : I → sProp 𝕄) (a : I) (f : J → I) (hf : Function.Injective f) (ha : ∀ j, f j ≠ a) :
    bigSep Finset.univ Φ ⊢ iprop(Φ a ∗ bigSep Finset.univ fun j : J => Φ (f j)) := by
  have hsub : Finset.univ.image f ⊆ Finset.univ.erase a := fun x hx => by
    obtain ⟨j, -, rfl⟩ := Finset.mem_image.mp hx
    exact Finset.mem_erase_of_ne_of_mem (ha j) (Finset.mem_univ _)
  have h2 : bigSep (Finset.univ.erase a) Φ ⊢ bigSep Finset.univ fun j : J => Φ (f j) := by
    rw [← bigSep_image_of_injOn (f := f) (s := Finset.univ) (fun a _ b _ h => hf h) Φ]
    exact bigSep_subset hsub
  rw [bigSep_univ_at Φ a]
  exact sep_mono_right h2

omit [FloatOps F] in
theorem pick_locs (Φ : SemLoc sig → sProp 𝕄) (c : Dev nD) :
    bigSep Finset.univ Φ ⊢ iprop(Φ (.reg barS) ∗ bigSep Finset.univ fun j : Fin 15 => Φ (recvLoc c j)) :=
  pick_some Φ _ (recvLoc c) (recvLoc_injective c) (recvLoc_ne c)

omit [FloatOps F] in
theorem launch_crds (c : Dev nD) : (Pipeline.launchCred O₀ c : sProp 𝕄) ⊢ crds c := by
  have h : ∀ j ∈ (Finset.univ : Finset (Fin 15)), (cred (tallyOn ((c : Thread nD τ), recvLoc c j) (launchCredit (Pipeline.owing O₀) 0 ((c : Thread nD τ), recvLoc c j))) : sProp 𝕄)
      = cred (tallyAt (recvCell c (sh c j)) () N) := fun j _ => congrArg cred (launch_recv c j)
  have hb : (cred (tallyOn ((c : Thread nD τ), SemLoc.reg barS) (launchCredit (Pipeline.owing O₀) 0 ((c : Thread nD τ), SemLoc.reg barS))) : sProp 𝕄)
      = cred (tallyAt (barCell c) () 15) := congrArg cred (launch_bar c)
  have hp := pick_locs (F := F) (fun sm => cred (tallyOn ((c : Thread nD τ), sm) (launchCredit (Pipeline.owing O₀) 0 ((c : Thread nD τ), sm)))) c
  rw [bigSep_congr h, hb] at hp
  exact hp

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_crds (F := F) c) $$ Hcr
  imodintro
  unfold start
  isplitl
  · isplitl [HG]; · iexact HG
    isplitl [Hc]; · iexact Hc
    iexact Hlev
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch zeros Pipeline.ownSems0
  iintro ⟨Hs, Hb, Hz⟩
  isplitl [Hb]; · iexact Hb
  isplitl [Hz]; · iexact Hz
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every execution of the program on sixteen devices, over any float values, ends, with each device's arrays as computed and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends as it was. -/
theorem finalA_x (c : Dev nD) : finalA m ρ c (0 : Fin 2) = m (win0_0.arr.view.loc (c : Thread nD τ)) :=
  (dats (F := F) m ρ 0 c).arrAt_in (0 : Fin 2) rfl _

/-- The result is what the body left in its staging buffer. -/
theorem finalA_o (c : Dev nD) : finalA m ρ c (1 : Fin 2) = outAt m c := by
  have ho : (win0_1.blk (0 : Fin 1)).view.read (Elt F) (finalA m ρ c (1 : Fin 2)) = outAt m c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 := funext fun a => by fin_cases a <;> decide
  exact (Memref.read_access_unit_zero (Elt F) main_v1 hz (fun a => by fin_cases a <;> decide) _).symm.trans ho

omit [FloatOps F] in
/-- What a device stages is its argument. -/
theorem xstg_eq (c : Dev nD) : xstg m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The run, read at the argument and the result. -/
theorem run_ends : θ_run defs (onTc (τ := τ) (main (F := F))) (s₀ m ρ) (fun r =>
    (∀ c : Dev nD, r.2.mem ((c : Thread nD τ).loc main_v1) = outAt m c ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (finalA_o m ρ c), (h.1 c (0 : Fin 2)).trans (finalA_x m ρ c)⟩, h.2⟩)
    (run_main m ρ)

end Cert.SortProof

end
-- ==== Proof.Frames.lean ====
/- The three programs run to their end with their arguments unchanged and every counter at zero. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.SortProof

open Idealize.ShloMosaic Idealize.SL.Sem

set_option maxHeartbeats 1000000

/-- The kernel read exactly. -/
theorem frame_ideal : Cert.quiescent_KernelIdeal := fun m ρ _ =>
  (θ_run Cert.KernelIdeal.defs _ _).mono (fun _ h => ⟨fun c => (h.1 c).2, h.2⟩) (run_ends (F := Ideal) m ρ)

/-- The two texts declare the same kernel body. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  obtain ⟨l, hl⟩ := l
  obtain rfl : l = 0 := by omega
  rfl
theorem defs_eq : Cert.Kernel.defs (F := Bits) = Cert.KernelIdeal.defs (F := Bits) := congrArg (Pipeline.defs Cert.Kernel.pcfgs) bodies_eq

/-- The kernel as compiled: the same text, so the same run, over bit patterns. -/
theorem frame_bits : Cert.quiescent_Kernel := by
  intro m ρ _
  have h : θ_run Cert.KernelIdeal.defs (onTc (τ := Cert.KernelIdeal.τ) (Cert.KernelIdeal.main (F := Bits))) (s₀ m ρ) (fun r =>
      (∀ c : Dev Cert.KernelIdeal.nD, r.2.mem (c.tc.loc Cert.KernelIdeal.main_arg0) = m (c.tc.loc Cert.KernelIdeal.main_arg0)) ∧ r.2.sem = fun _ => 0) :=
    (θ_run Cert.KernelIdeal.defs _ _).mono (fun _ h => ⟨fun c => (h.1 c).2, h.2⟩) (run_ends (F := Bits) m ρ)
  rw [defs_eq]
  exact h

/-- The reference, which has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.SortProof

end
-- ==== Proof.Columns.lean ====
module

public import Idealize.ShloMosaic.Lib.SortNet.Sorts
public import Mathlib.Data.EReal.Operations
public import Mathlib.Data.List.OfFn

/-! # Bitonic sorting of one column

A column is a function from row numbers to extended reals. One exchange pass at distance `2 ^ e` puts the lesser of two
entries into the row with bit `e` clear and the greater into its partner. Passes at distances `2 ^ (k-1), …, 2, 1` sort
every run of `2 ^ k` rows whose two halves run in opposite directions. To sort some runs downwards, their entries are
negated before the passes and negated back after them.
-/

@[expose] public section

noncomputable section

namespace Cert.SortProof

open Idealize.ShloMosaic.SortNet

/-- A column: an entry for every row number. -/
abbrev Col := ℕ → EReal

/-- One exchange pass at distance `2 ^ e`. -/
def pass (e : ℕ) (v : Col) : Col := fun r =>
  if r / 2 ^ e % 2 = 0 then min (v r) (v (r + 2 ^ e)) else max (v (r - 2 ^ e)) (v r)

/-- The passes at distances `2 ^ (k-1), …, 2, 1`. -/
def passes : ℕ → Col → Col
  | 0, v => v
  | k + 1, v => passes k (pass k v)

/-- The same pass where, on rows that `m` marks, the greater entry goes to the lower row. -/
def turnPass (m : ℕ → Bool) (e : ℕ) (v : Col) : Col := fun r =>
  if r / 2 ^ e % 2 = 0 then (if m r then max (v r) (v (r + 2 ^ e)) else min (v r) (v (r + 2 ^ e)))
  else (if m r then min (v (r - 2 ^ e)) (v r) else max (v (r - 2 ^ e)) (v r))

/-- The passes at distances `2 ^ (k-1), …, 1` with marked rows. -/
def turnPasses (m : ℕ → Bool) : ℕ → Col → Col
  | 0, v => v
  | k + 1, v => turnPasses m k (turnPass m k v)

/-- The column negated on the marked rows. -/
def turn (m : ℕ → Bool) (v : Col) : Col := fun r => if m r then - v r else v r

/-- The mark of level `k`: bit `k` of the row number. -/
def bit (k : ℕ) (r : ℕ) : Bool := decide (r / 2 ^ k % 2 = 1)

/-- One level of the sort: runs of `2 ^ k` rows, upwards where bit `k` is clear and downwards where it is set. -/
def level (k : ℕ) (v : Col) : Col := turn (bit k) (passes k (turn (bit k) v))

/-- The levels `1, …, k` in turn. -/
def levels : ℕ → Col → Col
  | 0, v => v
  | k + 1, v => level (k + 1) (levels k v)

/-! ## Rows and their partners -/

theorem div_add_pow {r e : ℕ} (h : r / 2 ^ e % 2 = 0) {k : ℕ} (hk : e < k) : (r + 2 ^ e) / 2 ^ k = r / 2 ^ k := by
  obtain ⟨d, rfl⟩ := Nat.exists_eq_add_of_lt hk
  have e1 : 2 ^ (e + d + 1) = 2 ^ e * (2 * 2 ^ d) := by rw [pow_succ, pow_add]; ring
  rw [e1, ← Nat.div_div_eq_div_mul, ← Nat.div_div_eq_div_mul, Nat.add_div_right _ (Nat.two_pow_pos e),
    ← Nat.div_div_eq_div_mul, ← Nat.div_div_eq_div_mul]
  congr 1
  omega

theorem pow_le_of_bit {r e : ℕ} (h : ¬ r / 2 ^ e % 2 = 0) : 2 ^ e ≤ r := by
  by_contra hc
  exact h (by rw [Nat.div_eq_of_lt (by omega)])

theorem bit_sub_pow {r e : ℕ} (h : ¬ r / 2 ^ e % 2 = 0) : (r - 2 ^ e) / 2 ^ e % 2 = 0 := by
  have h1 := pow_le_of_bit h
  obtain ⟨d, rfl⟩ := Nat.exists_eq_add_of_le h1
  rw [Nat.add_sub_cancel_left]
  rw [Nat.add_div_left _ (Nat.two_pow_pos e)] at h
  omega

theorem div_sub_pow {r e : ℕ} (h : ¬ r / 2 ^ e % 2 = 0) {k : ℕ} (hk : e < k) : (r - 2 ^ e) / 2 ^ k = r / 2 ^ k := by
  have := div_add_pow (bit_sub_pow h) hk
  rw [Nat.sub_add_cancel (pow_le_of_bit h)] at this
  exact this.symm

/-- Marks that are the same all over every run of `2 ^ k` rows. -/
def OnRuns (k : ℕ) (m : ℕ → Bool) : Prop := ∀ r r', r / 2 ^ k = r' / 2 ^ k → m r = m r'

theorem onRuns_bit (k : ℕ) : OnRuns k (bit k) := fun r r' h => by unfold bit; rw [h]

theorem OnRuns.lower {k j : ℕ} {m : ℕ → Bool} (h : OnRuns k m) (hj : j ≤ k) : OnRuns j m := fun r r' e => by
  refine h r r' ?_
  obtain ⟨d, rfl⟩ := Nat.exists_eq_add_of_le hj
  rw [pow_add, ← Nat.div_div_eq_div_mul, ← Nat.div_div_eq_div_mul, e]

/-! ## Negating around the passes -/

theorem neg_min_neg (a b : EReal) : - min (-a) (-b) = max a b := by
  rcases le_total a b with h | h
  · rw [min_eq_right (EReal.neg_le_neg_iff.mpr h), max_eq_right h, neg_neg]
  · rw [min_eq_left (EReal.neg_le_neg_iff.mpr h), max_eq_left h, neg_neg]

theorem neg_max_neg (a b : EReal) : - max (-a) (-b) = min a b := by
  rcases le_total a b with h | h
  · rw [max_eq_left (EReal.neg_le_neg_iff.mpr h), min_eq_left h, neg_neg]
  · rw [max_eq_right (EReal.neg_le_neg_iff.mpr h), min_eq_right h, neg_neg]

theorem turn_turn (m : ℕ → Bool) (v : Col) : turn m (turn m v) = v := by
  funext r
  unfold turn
  by_cases h : m r <;> simp [h]

theorem turn_xor (m m' : ℕ → Bool) (v : Col) : turn (fun r => xor (m r) (m' r)) v = turn m (turn m' v) := by
  funext r
  unfold turn
  by_cases h : m r <;> by_cases h' : m' r <;> simp [h, h']

theorem turn_false (v : Col) : turn (fun _ => false) v = v := by
  funext r
  simp [turn]

/-- A pass between two negations is the pass with marks. -/
theorem turn_pass (m : ℕ → Bool) {e k : ℕ} (hm : OnRuns k m) (he : e < k) (v : Col) :
    turn m (pass e (turn m v)) = turnPass m e v := by
  funext r
  show (if m r then - pass e (turn m v) r else pass e (turn m v) r) = _
  unfold pass turnPass
  by_cases h : r / 2 ^ e % 2 = 0
  · rw [if_pos h, if_pos h]
    have e1 : m (r + 2 ^ e) = m r := hm _ _ (div_add_pow h he)
    unfold turn
    rw [e1]
    by_cases hr : m r
    · simp only [hr, if_true]; exact neg_min_neg _ _
    · simp only [hr]; rfl
  · rw [if_neg h, if_neg h]
    have e1 : m (r - 2 ^ e) = m r := hm _ _ (div_sub_pow h he)
    unfold turn
    rw [e1]
    by_cases hr : m r
    · simp only [hr, if_true]; exact neg_max_neg _ _
    · simp only [hr]; rfl

theorem turn_passes (m : ℕ → Bool) (k : ℕ) (hm : OnRuns k m) (v : Col) :
    turn m (passes k (turn m v)) = turnPasses m k v := by
  induction k generalizing v with
  | zero => exact turn_turn m v
  | succ k ih =>
    show turn m (passes k (pass k (turn m v))) = turnPasses m k (turnPass m k v)
    rw [← turn_pass m hm (Nat.lt_succ_self k) v, ← ih (hm.lower (Nat.le_succ k)), turn_turn]

/-! ## The passes as a network -/

theorem and_pow_iff (r e : ℕ) : r &&& 2 ^ e = 0 ↔ r / 2 ^ e % 2 = 0 := by
  rw [and_two_pow_eq_zero_iff_testBit, Nat.testBit_eq_decide_div_mod_eq]
  simp

theorem apply_stage_turnPass (m : ℕ → Bool) {p e k : ℕ} (hm : OnRuns k m) (hek : e < k) (he : e < p) (v : Col) :
    Network.apply (stage p e fun i : Fin (2 ^ p) => m i.val) (fun i : Fin (2 ^ p) => v i.val) = fun i : Fin (2 ^ p) => turnPass m e v i.val := by
  funext i
  unfold turnPass
  by_cases h : i.val / 2 ^ e % 2 = 0
  · have h' := (and_pow_iff _ _).mpr h
    rw [if_pos h, (apply_stage he _ _ i h').1, partner_val_of_clear he i h']
  · have h' : ¬ i.val &&& 2 ^ e = 0 := fun hc => h ((and_pow_iff _ _).mp hc)
    have hp : (partner p e i).val = i.val - 2 ^ e := (partner_val_of_set he i h').2
    have hc : (partner p e i).val &&& 2 ^ e = 0 := partner_and_of_set he i h'
    have := (apply_stage he (fun i : Fin (2 ^ p) => m i.val) (fun i : Fin (2 ^ p) => v i.val) (partner p e i) hc).2
    rw [partner_partner he i] at this
    rw [if_neg h, this, hp, hm _ _ (div_sub_pow h hek)]

theorem apply_passes_net (m : ℕ → Bool) {p : ℕ} (k : ℕ) (hm : OnRuns k m) (hk : k ≤ p) (v : Col) :
    Network.apply ((List.range k).reverse.flatMap fun e => stage p e fun i : Fin (2 ^ p) => m i.val) (fun i : Fin (2 ^ p) => v i.val)
      = fun i : Fin (2 ^ p) => turnPasses m k v i.val := by
  induction k generalizing v with
  | zero => rfl
  | succ k ih =>
    rw [List.range_succ, List.reverse_append, List.flatMap_append, Network.apply_append]
    have e1 : ([k].reverse.flatMap fun e => stage p e fun i : Fin (2 ^ p) => m i.val) = stage p k fun i : Fin (2 ^ p) => m i.val := by simp
    rw [e1, apply_stage_turnPass m hm (Nat.lt_succ_self k) (by omega) v]
    exact ih (hm.lower (Nat.le_succ k)) (by omega) _

/-- The first `2 ^ p` rows of a column are rearranged by a level that stays within them. -/
theorem level_perm {p : ℕ} (k : ℕ) (hk : k ≤ p) (v : Col) :
    ∃ σ : Equiv.Perm (Fin (2 ^ p)), ∀ i : Fin (2 ^ p), level k v i.val = v (σ i).val := by
  obtain ⟨σ, hσ⟩ := Network.exists_perm ((List.range k).reverse.flatMap fun e => stage p e fun i : Fin (2 ^ p) => bit k i.val)
    (fun i : Fin (2 ^ p) => v i.val)
  rw [apply_passes_net (bit k) k (onRuns_bit k) hk v] at hσ
  refine ⟨σ, fun i => ?_⟩
  unfold level
  rw [turn_passes _ _ (onRuns_bit k)]
  exact congrFun hσ i

theorem levels_perm {p : ℕ} (k : ℕ) (hk : k ≤ p) (v : Col) :
    ∃ σ : Equiv.Perm (Fin (2 ^ p)), ∀ i : Fin (2 ^ p), levels k v i.val = v (σ i).val := by
  induction k with
  | zero => exact ⟨Equiv.refl _, fun _ => rfl⟩
  | succ k ih =>
    obtain ⟨σ, hσ⟩ := ih (by omega)
    obtain ⟨τ, hτ⟩ := level_perm (p := p) (k + 1) hk (levels k v)
    exact ⟨τ.trans σ, fun i => (hτ i).trans (hσ (τ i))⟩

theorem turnPasses_false (k : ℕ) (v : Col) : turnPasses (fun _ => false) k v = passes k v := by
  rw [← turn_passes _ k (fun _ _ _ => rfl), turn_false, turn_false]

theorem passes_perm (p : ℕ) (v : Col) :
    ∃ σ : Equiv.Perm (Fin (2 ^ p)), ∀ i : Fin (2 ^ p), passes p v i.val = v (σ i).val := by
  obtain ⟨σ, hσ⟩ := Network.exists_perm ((List.range p).reverse.flatMap fun e => stage p e fun i : Fin (2 ^ p) => false)
    (fun i : Fin (2 ^ p) => v i.val)
  rw [apply_passes_net (fun _ => false) p (fun _ _ _ => rfl) le_rfl v] at hσ
  refine ⟨σ, fun i => ?_⟩
  rw [← turnPasses_false]
  exact congrFun hσ i

/-! ## Runs -/

/-- Columns that agree on the first `M` rows, a whole number of runs, still do after the passes. -/
theorem pass_congr {e k M : ℕ} (he : e < k) (hM : 2 ^ k ∣ M) {v w : Col} (h : ∀ r < M, v r = w r) :
    ∀ r < M, pass e v r = pass e w r := by
  intro r hr
  unfold pass
  by_cases hb : r / 2 ^ e % 2 = 0
  · have h1 : r + 2 ^ e < M := by
      obtain ⟨d, rfl⟩ := hM
      rw [mul_comm] at hr ⊢
      rw [← Nat.div_lt_iff_lt_mul (Nat.two_pow_pos k)] at hr ⊢
      rw [div_add_pow hb he]
      exact hr
    rw [if_pos hb, if_pos hb, h _ hr, h _ h1]
  · rw [if_neg hb, if_neg hb, h _ hr, h (r - 2 ^ e) (lt_of_le_of_lt (Nat.sub_le _ _) hr)]

theorem passes_congr {k K M : ℕ} (hk : k ≤ K) (hM : 2 ^ K ∣ M) {v w : Col} (h : ∀ r < M, v r = w r) :
    ∀ r < M, passes k v r = passes k w r := by
  induction k generalizing v w with
  | zero => exact h
  | succ k ih => exact ih (by omega) (pass_congr (by omega) hM h)

/-- Passes within runs of `2 ^ K` rows see a run as they would at the start of the column. -/
theorem pass_shift {e K : ℕ} (he : e < K) (a : ℕ) (v : Col) :
    pass e (fun j => v (a * 2 ^ K + j)) = fun j => pass e v (a * 2 ^ K + j) := by
  funext j
  have hd : (a * 2 ^ K + j) / 2 ^ e % 2 = j / 2 ^ e % 2 := by
    obtain ⟨d, rfl⟩ := Nat.exists_eq_add_of_lt he
    rw [show a * 2 ^ (e + d + 1) + j = j + 2 ^ e * (2 * (a * 2 ^ d)) by rw [pow_succ, pow_add]; ring,
      Nat.add_mul_div_left _ _ (Nat.two_pow_pos e)]
    omega
  unfold pass
  rw [hd]
  by_cases hb : j / 2 ^ e % 2 = 0
  · rw [if_pos hb, if_pos hb, Nat.add_assoc]
  · rw [if_neg hb, if_neg hb, Nat.add_sub_assoc (pow_le_of_bit hb)]

theorem passes_shift {k K : ℕ} (hk : k ≤ K) (a : ℕ) (v : Col) :
    passes k (fun j => v (a * 2 ^ K + j)) = fun j => passes k v (a * 2 ^ K + j) := by
  induction k generalizing v with
  | zero => rfl
  | succ k ih =>
    show passes k (pass k fun j => v (a * 2 ^ K + j)) = fun j => passes k (pass k v) (a * 2 ^ K + j)
    rw [pass_shift (by omega), ih (by omega)]

/-- The `n` rows from `a` on ascend. -/
def Up (v : Col) (a n : ℕ) : Prop := ∀ i j, i ≤ j → j < n → v (a + i) ≤ v (a + j)
/-- The `n` rows from `a` on descend. -/
def Down (v : Col) (a n : ℕ) : Prop := ∀ i j, i ≤ j → j < n → v (a + j) ≤ v (a + i)

/-- Two halves in opposite directions are merged into one ascending run. -/
theorem passes_up {k a : ℕ} {v : Col}
    (h : (Up v (a * 2 ^ (k + 1)) (2 ^ k) ∧ Down v (a * 2 ^ (k + 1) + 2 ^ k) (2 ^ k))
      ∨ (Down v (a * 2 ^ (k + 1)) (2 ^ k) ∧ Up v (a * 2 ^ (k + 1) + 2 ^ k) (2 ^ k))) :
    Up (passes (k + 1) v) (a * 2 ^ (k + 1)) (2 ^ (k + 1)) := by
  have hw : 2 ^ (k + 1) = 2 ^ k + 2 ^ k := by rw [pow_succ]; ring
  have hda : DescAsc (fun i : Fin (2 ^ (k + 1)) => v (a * 2 ^ (k + 1) + i.val)) := by
    refine ⟨2 ^ k, ?_⟩
    rcases h with ⟨hu, hd⟩ | ⟨hd, hu⟩
    · right
      refine ⟨fun i j hij hj => hu i j hij hj, fun i j hij hi => ?_⟩
      have hj := j.isLt
      have := hd (i.val - 2 ^ k) (j.val - 2 ^ k) (by have : i.val ≤ j.val := hij; omega) (by omega)
      rwa [show a * 2 ^ (k + 1) + 2 ^ k + (i.val - 2 ^ k) = a * 2 ^ (k + 1) + i.val by omega,
        show a * 2 ^ (k + 1) + 2 ^ k + (j.val - 2 ^ k) = a * 2 ^ (k + 1) + j.val by
          have : i.val ≤ j.val := hij; omega] at this
    · left
      refine ⟨fun i j hij hj => hd i j hij hj, fun i j hij hi => ?_⟩
      have hj := j.isLt
      have := hu (i.val - 2 ^ k) (j.val - 2 ^ k) (by have : i.val ≤ j.val := hij; omega) (by omega)
      rwa [show a * 2 ^ (k + 1) + 2 ^ k + (i.val - 2 ^ k) = a * 2 ^ (k + 1) + i.val by omega,
        show a * 2 ^ (k + 1) + 2 ^ k + (j.val - 2 ^ k) = a * 2 ^ (k + 1) + j.val by
          have : i.val ≤ j.val := hij; omega] at this
  have hmono := mergeAscNet_apply_monotone (k + 1) _ hda
  have hnet := apply_passes_net (fun _ => false) (p := k + 1) (k + 1) (fun _ _ _ => rfl) le_rfl
    (fun j => v (a * 2 ^ (k + 1) + j))
  rw [turnPasses_false, passes_shift le_rfl] at hnet
  intro i j hij hj
  have := hmono (show (⟨i, by omega⟩ : Fin (2 ^ (k + 1))) ≤ ⟨j, hj⟩ from hij)
  unfold mergeAscNet at this
  rw [hnet] at this
  exact this

/-- Runs of `2 ^ k` rows, upwards where bit `k` is clear and downwards where it is set. -/
def Alternates (k : ℕ) (v : Col) : Prop :=
  ∀ a, if a % 2 = 0 then Up v (a * 2 ^ k) (2 ^ k) else Down v (a * 2 ^ k) (2 ^ k)

theorem bit_run (k a i : ℕ) (hi : i < 2 ^ k) : bit k (a * 2 ^ k + i) = decide (a % 2 = 1) := by
  unfold bit
  rw [Nat.add_comm, Nat.add_mul_div_right _ _ (Nat.two_pow_pos k), Nat.div_eq_of_lt hi, Nat.zero_add]

theorem alternates_zero (v : Col) : Alternates 0 v := fun a => by
  by_cases h : a % 2 = 0
  · rw [if_pos h]
    intro i j hij hj
    rw [show i = j by simp at hj; omega]
  · rw [if_neg h]
    intro i j hij hj
    rw [show i = j by simp at hj; omega]

/-- The two halves of a run of `2 ^ (k+1)` rows in an alternating column. -/
theorem Alternates.halves {k : ℕ} {v : Col} (h : Alternates k v) (a : ℕ) :
    Up v (a * 2 ^ (k + 1)) (2 ^ k) ∧ Down v (a * 2 ^ (k + 1) + 2 ^ k) (2 ^ k) := by
  have h0 := h (2 * a)
  have h1 := h (2 * a + 1)
  rw [if_pos (by omega)] at h0
  rw [if_neg (by omega)] at h1
  rw [show 2 * a * 2 ^ k = a * 2 ^ (k + 1) by rw [pow_succ]; ring] at h0
  rw [show (2 * a + 1) * 2 ^ k = a * 2 ^ (k + 1) + 2 ^ k by rw [pow_succ]; ring] at h1
  exact ⟨h0, h1⟩

/-- A level makes runs twice as long alternate. -/
theorem Alternates.level {k : ℕ} {v : Col} (h : Alternates k v) : Alternates (k + 1) (level (k + 1) v) := by
  intro a
  have hw : 2 ^ (k + 1) = 2 ^ k + 2 ^ k := by rw [pow_succ]; ring
  obtain ⟨hu, hd⟩ := h.halves a
  have hrun : ∀ (w : Col) (i : ℕ), i < 2 ^ (k + 1) → turn (bit (k + 1)) w (a * 2 ^ (k + 1) + i)
      = if a % 2 = 1 then - w (a * 2 ^ (k + 1) + i) else w (a * 2 ^ (k + 1) + i) := by
    intro w i hi
    unfold turn
    rw [bit_run _ _ _ hi]
    simp
  have hrun' : ∀ (w : Col) (i : ℕ), i < 2 ^ k → turn (bit (k + 1)) w (a * 2 ^ (k + 1) + 2 ^ k + i)
      = if a % 2 = 1 then - w (a * 2 ^ (k + 1) + 2 ^ k + i) else w (a * 2 ^ (k + 1) + 2 ^ k + i) := by
    intro w i hi
    rw [Nat.add_assoc]
    exact hrun w (2 ^ k + i) (by omega)
  by_cases ha : a % 2 = 0
  · rw [if_pos ha]
    have ha' : ¬ a % 2 = 1 := by omega
    have := passes_up (k := k) (a := a) (v := turn (bit (k + 1)) v) (Or.inl ⟨fun i j hij hj => by
        rw [hrun _ _ (by omega), hrun _ _ (by omega), if_neg ha', if_neg ha']; exact hu i j hij hj,
      fun i j hij hj => by
        rw [hrun' _ _ (by omega), hrun' _ _ (by omega), if_neg ha', if_neg ha']; exact hd i j hij hj⟩)
    intro i j hij hj
    unfold SortProof.level
    rw [hrun _ _ (by omega), hrun _ _ hj, if_neg ha', if_neg ha']
    exact this i j hij hj
  · rw [if_neg ha]
    have ha' : a % 2 = 1 := by omega
    have := passes_up (k := k) (a := a) (v := turn (bit (k + 1)) v) (Or.inr ⟨fun i j hij hj => by
        rw [hrun _ _ (by omega), hrun _ _ (by omega), if_pos ha', if_pos ha', EReal.neg_le_neg_iff]; exact hu i j hij hj,
      fun i j hij hj => by
        rw [hrun' _ _ (by omega), hrun' _ _ (by omega), if_pos ha', if_pos ha', EReal.neg_le_neg_iff]; exact hd i j hij hj⟩)
    intro i j hij hj
    unfold SortProof.level
    rw [hrun _ i (by omega), hrun _ _ hj, if_pos ha', if_pos ha', EReal.neg_le_neg_iff]
    exact this i j hij hj

theorem alternates_levels (k : ℕ) (v : Col) : Alternates k (levels k v) := by
  induction k with
  | zero => exact alternates_zero v
  | succ k ih => exact ih.level

/-! ## Sign changes put together

Between two levels the two sign changes are one, at the rows where the marks differ. -/

theorem turn_comm (m m' : ℕ → Bool) (v : Col) : turn m (turn m' v) = turn m' (turn m v) := by
  rw [← turn_xor, ← turn_xor]
  congr 1
  funext r
  exact Bool.xor_comm _ _

/-- The levels with the sign changes put together, the last one still due. -/
def joint : ℕ → Col → Col
  | 0, v => turn (bit 0) v
  | k + 1, v => passes (k + 1) (turn (fun r => xor (bit (k + 1) r) (bit k r)) (joint k v))

theorem turn_joint (k : ℕ) (v : Col) : turn (bit k) (joint k v) = levels k v := by
  induction k with
  | zero => exact turn_turn _ v
  | succ k ih =>
    show turn (bit (k + 1)) (passes (k + 1) (turn (fun r => xor (bit (k + 1) r) (bit k r)) (joint k v))) = level (k + 1) (levels k v)
    rw [turn_xor, ih]
    rfl

theorem joint_one (v : Col) : joint 1 v = passes 1 (turn (bit 1) v) := by
  show passes 1 (turn (fun r => xor (bit 1 r) (bit 0 r)) (turn (bit 0) v)) = _
  rw [turn_xor, turn_turn]

/-! ## Two ascending rearrangements are the same -/

theorem ascending_unique {n : ℕ} (v : Fin n → EReal) (σ τ : Equiv.Perm (Fin n)) (hσ : Monotone (v ∘ σ)) (hτ : Monotone (v ∘ τ)) :
    v ∘ σ = v ∘ τ := by
  have h1 : (List.ofFn (v ∘ σ)).Perm (List.ofFn (v ∘ τ)) :=
    (Equiv.Perm.ofFn_comp_perm σ v).trans (Equiv.Perm.ofFn_comp_perm τ v).symm
  have h2 : (List.ofFn (v ∘ σ)) = List.ofFn (v ∘ τ) := by
    refine List.Perm.eq_of_pairwise (le := fun a b => a ≤ b) (fun a b _ _ h h' => le_antisymm h h') ?_ ?_ h1
    · rw [List.pairwise_ofFn]; exact fun i j hij => hσ (le_of_lt hij)
    · rw [List.pairwise_ofFn]; exact fun i j hij => hτ (le_of_lt hij)
  exact List.ofFn_injective h2

end Cert.SortProof

end
-- ==== Proof.Passes.lean ====
module

public import proofs.«01_k».proof.Proof.Columns
public import Idealize.ShloMosaic.Lib.Pipeline.Value
public import Idealize.ShloMosaic.Lib.Pointwise.Index
public import Idealize.ShloMosaic.Lib.ValueIdx

/-! # The printed exchange pass, read entry by entry

The program runs an exchange pass on an `[M, n]` array by cutting its rows into `G` groups of two halves of `s` rows,
taking the minimum and the maximum of the halves, and joining them again. Here this is one definition over any sizes,
with its reading: with `s = 2 ^ e` it is `pass e` in every column. The sign changes under a mask are read the same way.
-/

@[expose] public section

noncomputable section

namespace Cert.SortProof

open Idealize.ShloMosaic

/-- The side conditions of the shape changes in one exchange pass. -/
structure Cuts (G s n M : ℕ) : Prop where
  cut : Shape.ShapeCasts ⟨2, ![M, n]⟩ ⟨4, ![G, 2, s, n]⟩
  low : Shape.Slices ⟨4, ![G, 2, s, n]⟩ ![0, 0, 0, 0] ⟨4, ![G, 1, s, n]⟩
  high : Shape.Slices ⟨4, ![G, 2, s, n]⟩ ![0, 1, 0, 0] ⟨4, ![G, 1, s, n]⟩
  squeeze : Shape.ShapeCasts ⟨4, ![G, 1, s, n]⟩ ⟨3, ![G, s, n]⟩
  widen : Shape.ShapeCasts ⟨3, ![G, s, n]⟩ ⟨4, ![G, 1, s, n]⟩
  joined : Shape.Concatenates [⟨4, ![G, 1, s, n]⟩, ⟨4, ![G, 1, s, n]⟩] ⟨4, ![G, 2, s, n]⟩ 1
  back : Shape.ShapeCasts ⟨4, ![G, 2, s, n]⟩ ⟨2, ![M, n]⟩
  rows : M = G * 2 * s

section printed
variable {F : FTy → Type} [FloatOps F] {G s n M : ℕ}

/-- The lower halves of the groups. -/
def lowRows (h : Cuts G s n M) (v : FVec F ⟨2, ![M, n]⟩ .f32) : FVec F ⟨3, ![G, s, n]⟩ .f32 :=
  shapeCast ⟨3, ![G, s, n]⟩ (extractStridedSlice ⟨4, ![G, 1, s, n]⟩ ![0, 0, 0, 0] (shapeCast ⟨4, ![G, 2, s, n]⟩ v h.cut) h.low) h.squeeze

/-- The upper halves of the groups. -/
def highRows (h : Cuts G s n M) (v : FVec F ⟨2, ![M, n]⟩ .f32) : FVec F ⟨3, ![G, s, n]⟩ .f32 :=
  shapeCast ⟨3, ![G, s, n]⟩ (extractStridedSlice ⟨4, ![G, 1, s, n]⟩ ![0, 1, 0, 0] (shapeCast ⟨4, ![G, 2, s, n]⟩ v h.cut) h.high) h.squeeze

/-- Lower and upper halves put together. -/
def joinRows (h : Cuts G s n M) (a b : FVec F ⟨3, ![G, s, n]⟩ .f32) : FVec F ⟨2, ![M, n]⟩ .f32 :=
  shapeCast ⟨2, ![M, n]⟩ (concatenate ⟨4, ![G, 2, s, n]⟩ 1
    [⟨⟨4, ![G, 1, s, n]⟩, shapeCast ⟨4, ![G, 1, s, n]⟩ a h.widen⟩, ⟨⟨4, ![G, 1, s, n]⟩, shapeCast ⟨4, ![G, 1, s, n]⟩ b h.widen⟩] h.joined) h.back

/-- One exchange pass over halves of `s` rows. -/
def exch (h : Cuts G s n M) (v : FVec F ⟨2, ![M, n]⟩ .f32) : FVec F ⟨2, ![M, n]⟩ .f32 :=
  joinRows h (minimumf (lowRows h v) (highRows h v)) (maximumf (lowRows h v) (highRows h v))

/-- The array negated where the mask holds. -/
def flipAt (k : IVec ⟨2, ![M, n]⟩ 1) (v : FVec F ⟨2, ![M, n]⟩ .f32) : FVec F ⟨2, ![M, n]⟩ .f32 :=
  select k (subf (broadcast ⟨2, ![M, n]⟩ (Scalar.ofBits .f32 0x00000000#32)) v) v

/-- The array negated or not as a whole. -/
def flipAll (k : BitVec 1) (v : FVec F ⟨2, ![M, n]⟩ .f32) : FVec F ⟨2, ![M, n]⟩ .f32 :=
  Scalar.select k (subf (broadcast ⟨2, ![M, n]⟩ (Scalar.ofBits .f32 0x00000000#32)) v) v

variable {α : Type}

theorem row_low (h : Cuts G s n M) (g : Fin G) (t : Fin s) (d : Fin 2) : (g.val * 2 + d.val) * s + t.val < M := by
  have h1 := g.isLt
  have h2 := t.isLt
  have h3 := d.isLt
  have h4 : (g.val * 2 + d.val + 1) * s ≤ G * 2 * s := Nat.mul_le_mul_right _ (by omega)
  rw [Nat.add_mul, Nat.one_mul] at h4
  rw [h.rows]
  omega

theorem lowRows_apply (h : Cuts G s n M) (v : FVec F ⟨2, ![M, n]⟩ .f32) (g : Fin G) (t : Fin s) (l : Fin n) :
    lowRows h v (ix3 g t l) = v (ix2 ⟨(g.val * 2 + (0 : Fin 2).val) * s + t.val, row_low h g t 0⟩ l) := by
  unfold lowRows
  rw [shapeCast_apply _ _ _ (ix4 g (0 : Fin 1) t l) (by
      rw [Shape.rowMajor_val_four, Shape.rowMajor_val_three]
      simp),
    extractStridedSlice_apply _ _ _ _ (ix4 g (0 : Fin 2) t l) (by
      intro a
      match a with
      | ⟨0, _⟩ => simp
      | ⟨1, _⟩ => simp
      | ⟨2, _⟩ => simp
      | ⟨3, _⟩ => simp),
    shapeCast_apply _ _ _ (ix2 ⟨(g.val * 2 + (0 : Fin 2).val) * s + t.val, row_low h g t 0⟩ l) (by
      rw [Shape.rowMajor_val_four, Shape.rowMajor_val_two]
      simp)]

theorem highRows_apply (h : Cuts G s n M) (v : FVec F ⟨2, ![M, n]⟩ .f32) (g : Fin G) (t : Fin s) (l : Fin n) :
    highRows h v (ix3 g t l) = v (ix2 ⟨(g.val * 2 + (1 : Fin 2).val) * s + t.val, row_low h g t 1⟩ l) := by
  unfold highRows
  rw [shapeCast_apply _ _ _ (ix4 g (0 : Fin 1) t l) (by
      rw [Shape.rowMajor_val_four, Shape.rowMajor_val_three]
      simp),
    extractStridedSlice_apply _ _ _ _ (ix4 g (1 : Fin 2) t l) (by
      intro a
      match a with
      | ⟨0, _⟩ => simp
      | ⟨1, _⟩ => simp
      | ⟨2, _⟩ => simp
      | ⟨3, _⟩ => simp),
    shapeCast_apply _ _ _ (ix2 ⟨(g.val * 2 + (1 : Fin 2).val) * s + t.val, row_low h g t 1⟩ l) (by
      rw [Shape.rowMajor_val_four, Shape.rowMajor_val_two]
      simp)]

theorem joinRows_apply_low (h : Cuts G s n M) (a b : FVec F ⟨3, ![G, s, n]⟩ .f32) (g : Fin G) (t : Fin s) (l : Fin n) :
    joinRows h a b (ix2 ⟨(g.val * 2 + (0 : Fin 2).val) * s + t.val, row_low h g t 0⟩ l) = a (ix3 g t l) := by
  unfold joinRows
  rw [shapeCast_apply _ _ _ (ix4 g (0 : Fin 2) t l) (by
      rw [Shape.rowMajor_val_four, Shape.rowMajor_val_two]
      simp),
    concatenate_pair_apply_left (t := ⟨4, ![G, 2, s, n]⟩) (s₁ := ⟨4, ![G, 1, s, n]⟩) (s₂ := ⟨4, ![G, 1, s, n]⟩) (1 : Fin 4) _ _ h.joined (ix4 g (0 : Fin 2) t l) rfl (ix4 g (0 : Fin 1) t l) (by
      intro a
      match a with
      | ⟨0, _⟩ => rfl
      | ⟨1, _⟩ => rfl
      | ⟨2, _⟩ => rfl
      | ⟨3, _⟩ => rfl),
    shapeCast_apply _ _ _ (ix3 g t l) (by
      rw [Shape.rowMajor_val_four, Shape.rowMajor_val_three]
      simp)]

theorem joinRows_apply_high (h : Cuts G s n M) (a b : FVec F ⟨3, ![G, s, n]⟩ .f32) (g : Fin G) (t : Fin s) (l : Fin n) :
    joinRows h a b (ix2 ⟨(g.val * 2 + (1 : Fin 2).val) * s + t.val, row_low h g t 1⟩ l) = b (ix3 g t l) := by
  unfold joinRows
  rw [shapeCast_apply _ _ _ (ix4 g (1 : Fin 2) t l) (by
      rw [Shape.rowMajor_val_four, Shape.rowMajor_val_two]
      simp),
    concatenate_pair_apply_right (t := ⟨4, ![G, 2, s, n]⟩) (s₁ := ⟨4, ![G, 1, s, n]⟩) (s₂ := ⟨4, ![G, 1, s, n]⟩) (1 : Fin 4) _ _ h.joined (ix4 g (1 : Fin 2) t l) rfl rfl (ix4 g (0 : Fin 1) t l) (by
      intro a ha
      match a with
      | ⟨0, _⟩ => rfl
      | ⟨1, _⟩ => exact absurd rfl ha
      | ⟨2, _⟩ => rfl
      | ⟨3, _⟩ => rfl) (by rfl),
    shapeCast_apply _ _ _ (ix3 g t l) (by
      rw [Shape.rowMajor_val_four, Shape.rowMajor_val_three]
      simp)]

end printed

/-! ## What the arrays hold, column by column -/

section reading
variable {G n M : ℕ}

/-- The array `v` holds column `V l` in its lane `l`. -/
def Reads (v : FVec Ideal ⟨2, ![M, n]⟩ .f32) (V : Fin n → Col) : Prop := ∀ (r : Fin M) (l : Fin n), v (ix2 r l) = V l r.val

theorem Reads.at {v : FVec Ideal ⟨2, ![M, n]⟩ .f32} {V : Fin n → Col} (h : Reads v V) {r : ℕ} (hr : r < M) (l : Fin n) :
    v (ix2 ⟨r, hr⟩ l) = V l r := h ⟨r, hr⟩ l

/-- A row number as its group, its half and its place in the half. -/
theorem row_split {G s M : ℕ} (hM : M = G * 2 * s) {r : ℕ} (hr : r < M) :
    ∃ (g : Fin G) (d : Fin 2) (t : Fin s), r = (g.val * 2 + d.val) * s + t.val := by
  have hs : 0 < s := by
    rcases Nat.eq_zero_or_pos s with h | h
    · subst h; omega
    · exact h
  have h1 : r / s < G * 2 := (Nat.div_lt_iff_lt_mul hs).mpr (hM ▸ hr)
  refine ⟨⟨r / s / 2, by omega⟩, ⟨r / s % 2, by omega⟩, ⟨r % s, Nat.mod_lt _ hs⟩, ?_⟩
  show r = (r / s / 2 * 2 + r / s % 2) * s + r % s
  rw [show r / s / 2 * 2 + r / s % 2 = r / s by omega, Nat.div_add_mod']

theorem half_of {g d s t : ℕ} (hd : d < 2) (ht : t < s) : ((g * 2 + d) * s + t) / s % 2 = d := by
  rw [Nat.add_comm, Nat.add_mul_div_right _ _ (by omega), Nat.div_eq_of_lt ht]
  omega

theorem exch_reads {e : ℕ} (h : Cuts G (2 ^ e) n M) {v : FVec Ideal ⟨2, ![M, n]⟩ .f32} {V : Fin n → Col} (hv : Reads v V) :
    Reads (exch h v) (fun l => pass e (V l)) := by
  intro r l
  obtain ⟨g, d, t, hr⟩ := row_split h.rows r.isLt
  obtain ⟨r, hlt⟩ := r
  subst hr
  have hb := half_of (g := g.val) (s := 2 ^ e) d.isLt t.isLt
  have e1 : (g.val * 2 + 1) * 2 ^ e + t.val = (g.val * 2 + 0) * 2 ^ e + t.val + 2 ^ e := by ring
  unfold pass exch
  rcases d with ⟨d, hd⟩
  interval_cases d
  · simp only at hb ⊢
    rw [if_pos hb]
    refine (joinRows_apply_low h _ _ g t l).trans ?_
    show min (lowRows h v (ix3 g t l)) (highRows h v (ix3 g t l)) = _
    rw [lowRows_apply, highRows_apply, hv.at, hv.at]
    show min (V l ((g.val * 2 + 0) * 2 ^ e + t.val)) (V l ((g.val * 2 + 1) * 2 ^ e + t.val)) = _
    rw [e1]
  · simp only at hb ⊢
    rw [if_neg (by omega)]
    refine (joinRows_apply_high h _ _ g t l).trans ?_
    show max (lowRows h v (ix3 g t l)) (highRows h v (ix3 g t l)) = _
    rw [lowRows_apply, highRows_apply, hv.at, hv.at]
    show max (V l ((g.val * 2 + 0) * 2 ^ e + t.val)) (V l ((g.val * 2 + 1) * 2 ^ e + t.val)) = _
    rw [e1, Nat.add_sub_cancel]

/-- The same for a half length given as a number. -/
theorem exch_reads_of {s e : ℕ} (hs : s = 2 ^ e) (h : Cuts G s n M) {v : FVec Ideal ⟨2, ![M, n]⟩ .f32} {V : Fin n → Col} (hv : Reads v V) :
    Reads (exch h v) (fun l => pass e (V l)) := by
  subst hs
  exact exch_reads h hv

theorem zero_sub_ideal (x : EReal) : (Scalar.ofBits (F := Ideal) .f32 0x00000000#32 : EReal) - x = - x := by
  show Ideal.ofBits .f32 0x00000000#32 - x = - x
  have h0 : Ideal.ofBits .f32 0x00000000#32 = 0 := by simp [Ideal.ofBits, Ideal.ieee]
  rw [h0]
  exact zero_sub x

/-- A masked sign change, in a mask that reads as the marks `m l` in lane `l`. -/
theorem flipAt_reads {k : IVec ⟨2, ![M, n]⟩ 1} {m : Fin n → ℕ → Bool} (hk : ∀ (r : Fin M) (l : Fin n), k (ix2 r l) = BitVec.ofBool (m l r.val))
    {v : FVec Ideal ⟨2, ![M, n]⟩ .f32} {V : Fin n → Col} (hv : Reads v V) : Reads (flipAt k v) (fun l => turn (m l) (V l)) := by
  intro r l
  show Scalar.select (k (ix2 r l)) ((Scalar.ofBits (F := Ideal) .f32 0x00000000#32 : EReal) - v (ix2 r l)) (v (ix2 r l)) = _
  rw [zero_sub_ideal, hk, hv]
  show Scalar.select (BitVec.ofBool (m l r.val)) (- V l r.val) (V l r.val) = if m l r.val = true then - V l r.val else V l r.val
  cases m l r.val <;> rfl

theorem flipAll_reads {k : BitVec 1} {b : Bool} (hk : k = BitVec.ofBool b)
    {v : FVec Ideal ⟨2, ![M, n]⟩ .f32} {V : Fin n → Col} (hv : Reads v V) : Reads (flipAll k v) (fun l => turn (fun _ => b) (V l)) := by
  intro r l
  subst hk
  unfold flipAll turn
  cases b
  · exact hv r l
  · show (Scalar.ofBits (F := Ideal) .f32 0x00000000#32 : EReal) - v (ix2 r l) = _
    rw [zero_sub_ideal, hv]; rfl

/-! ## Arrays that hold a stretch of every column -/

/-- Lane `l` of the array holds the column `V l` from row `pos l` on. -/
def Held (v : FVec Ideal ⟨2, ![M, n]⟩ .f32) (pos : Fin n → ℕ) (V : Fin n → Col) : Prop := Reads v (fun l j => V l (pos l + j))

theorem Held.at {v : FVec Ideal ⟨2, ![M, n]⟩ .f32} {pos : Fin n → ℕ} {V : Fin n → Col} (h : Held v pos V) {r : ℕ} (hr : r < M) (l : Fin n) :
    v (ix2 ⟨r, hr⟩ l) = V l (pos l + r) := h ⟨r, hr⟩ l

theorem exch_held {s e : ℕ} (hs : s = 2 ^ e) (h : Cuts G s n M) {v : FVec Ideal ⟨2, ![M, n]⟩ .f32} {pos : Fin n → ℕ} {V : Fin n → Col}
    (hp : ∀ l, 2 ^ (e + 1) ∣ pos l) (hv : Held v pos V) : Held (exch h v) pos (fun l => pass e (V l)) := by
  intro r l
  rw [exch_reads_of hs h hv r l]
  obtain ⟨a, ha⟩ := hp l
  show pass e (fun j => V l (pos l + j)) r.val = pass e (V l) (pos l + r.val)
  rw [ha, Nat.mul_comm]
  exact congrFun (pass_shift (Nat.lt_succ_self e) a (V l)) r.val

theorem flipAt_held {k : IVec ⟨2, ![M, n]⟩ 1} {m : ℕ → Bool} {v : FVec Ideal ⟨2, ![M, n]⟩ .f32} {pos : Fin n → ℕ} {V : Fin n → Col}
    (hk : ∀ (r : Fin M) (l : Fin n), k (ix2 r l) = BitVec.ofBool (m (pos l + r.val))) (hv : Held v pos V) :
    Held (flipAt k v) pos (fun l => turn m (V l)) := by
  intro r l
  rw [flipAt_reads (m := fun l j => m (pos l + j)) hk hv r l]
  rfl

/-- A slice of rows and lanes, read. -/
theorem slice_apply {N p a b : ℕ} (h : Shape.Slices ⟨2, ![N, p]⟩ ![a, b] ⟨2, ![M, n]⟩) (v : FVec Ideal ⟨2, ![N, p]⟩ .f32)
    (r : Fin M) (l : Fin n) (hr : a + r.val < N) (hl : b + l.val < p) :
    extractStridedSlice ⟨2, ![M, n]⟩ ![a, b] v h (ix2 r l) = v (ix2 ⟨a + r.val, hr⟩ ⟨b + l.val, hl⟩) := by
  refine extractStridedSlice_apply _ _ _ _ _ fun x => ?_
  match x with
  | ⟨0, _⟩ => rfl
  | ⟨1, _⟩ => rfl

/-- The lesser, row by row, of the two halves of an array's rows. -/
def keepMin {F : FTy → Type} [FloatOps F] {N M n : ℕ} (h0 : Shape.Slices ⟨2, ![N, n]⟩ ![0, 0] ⟨2, ![M, n]⟩) (h1 : Shape.Slices ⟨2, ![N, n]⟩ ![M, 0] ⟨2, ![M, n]⟩)
    (v : FVec F ⟨2, ![N, n]⟩ .f32) : FVec F ⟨2, ![M, n]⟩ .f32 :=
  minimumf (extractStridedSlice ⟨2, ![M, n]⟩ ![0, 0] v h0) (extractStridedSlice ⟨2, ![M, n]⟩ ![M, 0] v h1)
/-- The greater, row by row. -/
def keepMax {F : FTy → Type} [FloatOps F] {N M n : ℕ} (h0 : Shape.Slices ⟨2, ![N, n]⟩ ![0, 0] ⟨2, ![M, n]⟩) (h1 : Shape.Slices ⟨2, ![N, n]⟩ ![M, 0] ⟨2, ![M, n]⟩)
    (v : FVec F ⟨2, ![N, n]⟩ .f32) : FVec F ⟨2, ![M, n]⟩ .f32 :=
  maximumf (extractStridedSlice ⟨2, ![M, n]⟩ ![0, 0] v h0) (extractStridedSlice ⟨2, ![M, n]⟩ ![M, 0] v h1)

theorem bit_start {e p r : ℕ} (hp : 2 ^ (e + 1) ∣ p) (hr : r < 2 ^ e) : (p + r) / 2 ^ e % 2 = 0 := by
  obtain ⟨a, rfl⟩ := hp
  rw [show 2 ^ (e + 1) * a + r = r + 2 ^ e * (2 * a) by rw [pow_succ]; ring, Nat.add_mul_div_left _ _ (Nat.two_pow_pos e),
    Nat.div_eq_of_lt hr]
  omega

theorem bit_start_high {e p r : ℕ} (hp : 2 ^ (e + 1) ∣ p) (hr : r < 2 ^ e) : ¬ (p + 2 ^ e + r) / 2 ^ e % 2 = 0 := by
  rw [show p + 2 ^ e + r = p + r + 2 ^ e by omega, Nat.add_div_right _ (Nat.two_pow_pos e)]
  have := bit_start hp hr
  omega

theorem keepMin_held {N e : ℕ} (hM : M = 2 ^ e) (hN : N = M + M) (h0 : Shape.Slices ⟨2, ![N, n]⟩ ![0, 0] ⟨2, ![M, n]⟩)
    (h1 : Shape.Slices ⟨2, ![N, n]⟩ ![M, 0] ⟨2, ![M, n]⟩) {v : FVec Ideal ⟨2, ![N, n]⟩ .f32} {pos : Fin n → ℕ} {V : Fin n → Col}
    (hp : ∀ l, 2 ^ (e + 1) ∣ pos l) (hv : Held v pos V) : Held (keepMin h0 h1 v) pos (fun l => pass e (V l)) := by
  intro r l
  have hr := r.isLt
  subst hM
  show min (extractStridedSlice _ ![0, 0] v h0 (ix2 r l)) (extractStridedSlice _ ![2 ^ e, 0] v h1 (ix2 r l)) = pass e (V l) (pos l + r.val)
  rw [slice_apply h0 v r l (by omega) (by omega), slice_apply h1 v r l (by omega) (by omega)]
  unfold pass
  rw [if_pos (bit_start (hp l) hr), hv.at, hv.at]
  simp only [Nat.zero_add]
  rw [show pos l + (2 ^ e + r.val) = pos l + r.val + 2 ^ e by omega]

theorem keepMax_held {N e : ℕ} (hM : M = 2 ^ e) (hN : N = M + M) (h0 : Shape.Slices ⟨2, ![N, n]⟩ ![0, 0] ⟨2, ![M, n]⟩)
    (h1 : Shape.Slices ⟨2, ![N, n]⟩ ![M, 0] ⟨2, ![M, n]⟩) {v : FVec Ideal ⟨2, ![N, n]⟩ .f32} {pos : Fin n → ℕ} {V : Fin n → Col}
    (hp : ∀ l, 2 ^ (e + 1) ∣ pos l) (hv : Held v pos V) : Held (keepMax h0 h1 v) (fun l => pos l + M) (fun l => pass e (V l)) := by
  intro r l
  have hr := r.isLt
  subst hM
  show max (extractStridedSlice _ ![0, 0] v h0 (ix2 r l)) (extractStridedSlice _ ![2 ^ e, 0] v h1 (ix2 r l)) = pass e (V l) (pos l + 2 ^ e + r.val)
  rw [slice_apply h0 v r l (by omega) (by omega), slice_apply h1 v r l (by omega) (by omega)]
  unfold pass
  rw [if_neg (bit_start_high (hp l) hr), hv.at, hv.at]
  simp only [Nat.zero_add]
  rw [show pos l + (2 ^ e + r.val) = pos l + 2 ^ e + r.val by omega, show pos l + 2 ^ e + r.val - 2 ^ e = pos l + r.val by omega]

/-- A row number's bit as the program tests it on words. -/
theorem word_bit (r k : ℕ) (hr : r < 2 ^ 32) (hk : k < 32) :
    IntOp.cmpi .ne (IntOp.andi (BitVec.ofNat 32 r) (BitVec.ofNat 32 (2 ^ k))) 0#32 = BitVec.ofBool (bit k r) := by
  have h2 : 2 ^ k < 2 ^ 32 := Nat.pow_lt_pow_right (by decide) hk
  show BitVec.ofBool ((BitVec.ofNat 32 r &&& BitVec.ofNat 32 (2 ^ k)) != 0#32) = _
  congr 1
  have h3 : (BitVec.ofNat 32 r &&& BitVec.ofNat 32 (2 ^ k)) = 0#32 ↔ r / 2 ^ k % 2 = 0 := by
    rw [← and_pow_iff, ← BitVec.toNat_inj, BitVec.toNat_and, BitVec.toNat_ofNat, BitVec.toNat_ofNat, Nat.mod_eq_of_lt hr, Nat.mod_eq_of_lt h2]
    rfl
  unfold bit
  by_cases h : r / 2 ^ k % 2 = 0
  · rw [h3.mpr h, decide_eq_false (by omega)]; rfl
  · rw [decide_eq_true (by omega)]
    exact bne_iff_ne.mpr fun hc => h (h3.mp hc)

theorem xori_ofBool (a b : Bool) : IntOp.xori (BitVec.ofBool a) (BitVec.ofBool b) = BitVec.ofBool (xor a b) := by
  cases a <;> cases b <;> rfl

/-- A change of shape to the same shape changes nothing. -/
theorem shapeCast_same {t : Shape} {α : Type} (x : t.Idx → α) (h : t.ShapeCasts t) : shapeCast t x h = x := by
  funext j
  exact shapeCast_apply x h j j rfl

end reading

/-- The side conditions hold whenever the rows are `G` groups of two halves of `s`. -/
theorem cuts {G s n M : ℕ} (hM : M = G * 2 * s) : Cuts G s n M where
  cut := by subst hM; simp [Shape.ShapeCasts, Shape.numel, Fin.prod_univ_succ]; ring
  low := by
    refine ⟨rfl, fun a => ?_⟩
    match a with
    | ⟨0, _⟩ => simp
    | ⟨1, _⟩ => simp
    | ⟨2, _⟩ => simp
    | ⟨3, _⟩ => simp
  high := by
    refine ⟨rfl, fun a => ?_⟩
    match a with
    | ⟨0, _⟩ => simp
    | ⟨1, _⟩ => simp
    | ⟨2, _⟩ => simp
    | ⟨3, _⟩ => simp
  squeeze := by simp [Shape.ShapeCasts, Shape.numel, Fin.prod_univ_succ]
  widen := by simp [Shape.ShapeCasts, Shape.numel, Fin.prod_univ_succ]
  joined := by
    refine ⟨by simp, fun s hs => ?_, by simp⟩
    obtain rfl : s = ⟨4, ![G, 1, _, n]⟩ := by simpa using hs
    refine ⟨rfl, fun b hb => ?_⟩
    match b with
    | ⟨0, _⟩ => rfl
    | ⟨1, _⟩ => exact absurd rfl hb
    | ⟨2, _⟩ => rfl
    | ⟨3, _⟩ => rfl
  back := by subst hM; simp [Shape.ShapeCasts, Shape.numel, Fin.prod_univ_succ]; ring
  rows := hM

end Cert.SortProof

end
-- ==== Proof.Local.lean ====
module

public import proofs.«01_k».proof.Proof.Schedule
public import proofs.«01_k».proof.Proof.Passes

/-! # A device's own block, sorted

The program's sort of the 128 rows of one block, written as exchange passes and sign changes, and what it leaves in
every column: a rearrangement that ascends on even devices and descends on odd ones.
-/

@[expose] public section

noncomputable section

namespace Cert.SortProof

open Cert.KernelIdeal Cert.KernelIdeal.Gen
open Idealize.ShloMosaic

section printed
variable {F : FTy → Type} [FloatOps F]

/-- The mask of the rows whose number has a bit of `b` set. -/
def rowBit (b : BitVec 32) : IVec S128x1 1 := cmpi .ne (andi rowIx (broadcast S128x1 b)) (broadcast S128x1 0#32)
/-- A mask of rows, over the lanes. -/
def overLanes (k : IVec S128x1 1) : IVec S128x64 1 :=
  broadcastTo S128x64 (shapeCast S128x1 k shapeCasts_S128x1_S128x1) broadcasts_S128x1_S128x64

def asc1 (v : FVec F S128x64 .f32) : FVec F S128x64 .f32 := exch (G := 64) (s := 1) (cuts rfl) v
def asc2 (v : FVec F S128x64 .f32) : FVec F S128x64 .f32 := asc1 (exch (G := 32) (s := 2) (cuts rfl) v)
def asc3 (v : FVec F S128x64 .f32) : FVec F S128x64 .f32 := asc2 (exch (G := 16) (s := 4) (cuts rfl) v)
def asc4 (v : FVec F S128x64 .f32) : FVec F S128x64 .f32 := asc3 (exch (G := 8) (s := 8) (cuts rfl) v)
def asc5 (v : FVec F S128x64 .f32) : FVec F S128x64 .f32 := asc4 (exch (G := 4) (s := 16) (cuts rfl) v)
def asc6 (v : FVec F S128x64 .f32) : FVec F S128x64 .f32 := asc5 (exch (G := 2) (s := 32) (cuts rfl) v)
def asc7 (v : FVec F S128x64 .f32) : FVec F S128x64 .f32 := asc6 (exch (G := 1) (s := 64) (cuts rfl) v)

/-- The sign change between the level with mask `b` and the one before it with mask `a`. -/
def between (b a : IVec S128x1 1) (v : FVec F S128x64 .f32) : FVec F S128x64 .f32 := flipAt (overLanes (xori b a)) v

def sort2 (v : FVec F S128x64 .f32) : FVec F S128x64 .f32 :=
  asc2 (between (rowBit 4#32) (rowBit 2#32) (asc1 (between (rowBit 2#32) (cmpi .slt rowIx (broadcast S128x1 0#32)) v)))
def sort4 (v : FVec F S128x64 .f32) : FVec F S128x64 .f32 :=
  asc4 (between (rowBit 16#32) (rowBit 8#32) (asc3 (between (rowBit 8#32) (rowBit 4#32) (sort2 v))))
def sort7 (v : FVec F S128x64 .f32) : FVec F S128x64 .f32 :=
  asc7 (between (rowBit 128#32) (rowBit 64#32) (asc6 (between (rowBit 64#32) (rowBit 32#32)
    (asc5 (between (rowBit 32#32) (rowBit 16#32) (sort4 v))))))

def same (v : FVec F S128x64 .f32) : FVec F S128x64 .f32 := shapeCast S128x64 v shapeCasts_S128x64_S128x64

/-- The program's local sort is these passes. -/
theorem localOut_eq (c : Dev nD) (x : FVec F S128x64 .f32) :
    localOut c x = same (flipAll (isOdd c) (sort7 (flipAll (isOdd c) (same x)))) := rfl

end printed

/-! ## The masks and the passes, read -/

theorem overLanes_apply (k : IVec S128x1 1) (r : Fin 128) (l : Fin 64) : overLanes k (ix2 r l) = k (ix2 r (0 : Fin 1)) := by
  unfold overLanes
  rw [shapeCast_same]
  refine broadcastTo_apply _ _ _ _ fun a => ?_
  match a with
  | ⟨0, _⟩ => rfl
  | ⟨1, _⟩ => rfl

theorem rowIx_apply (r : Fin 128) : rowIx (ix2 r (0 : Fin 1)) = BitVec.ofNat 32 r.val := by
  show BitVec.ofNat 32 _ = _
  congr 1
  show 0 * _ + r.val = r.val
  omega

theorem rowBit_apply {b : BitVec 32} (k : ℕ) (hk : k < 32) (hb : b = BitVec.ofNat 32 (2 ^ k)) (r : Fin 128) :
    rowBit b (ix2 r (0 : Fin 1)) = BitVec.ofBool (bit k r.val) := by
  subst hb
  show IntOp.cmpi .ne (IntOp.andi (rowIx (ix2 r (0 : Fin 1))) (BitVec.ofNat 32 (2 ^ k))) 0#32 = _
  rw [rowIx_apply]
  exact word_bit r.val k (by have := r.isLt; omega) hk

theorem noRow_apply (r : Fin 128) : (cmpi .slt rowIx (broadcast S128x1 0#32) : IVec S128x1 1) (ix2 r (0 : Fin 1)) = BitVec.ofBool false := by
  show IntOp.cmpi .slt (rowIx (ix2 r (0 : Fin 1))) 0#32 = _
  rw [rowIx_apply]
  revert r
  decide

section reading
variable {v : FVec Ideal S128x64 .f32} {V : Fin 64 → Col}

theorem between_reads {b a : IVec S128x1 1} {f g : ℕ → Bool} (hb : ∀ r : Fin 128, b (ix2 r (0 : Fin 1)) = BitVec.ofBool (f r.val))
    (ha : ∀ r : Fin 128, a (ix2 r (0 : Fin 1)) = BitVec.ofBool (g r.val)) (hv : Reads v V) :
    Reads (between b a v) (fun l => turn (fun r => xor (f r) (g r)) (V l)) := by
  refine flipAt_reads (m := fun _ r => xor (f r) (g r)) (fun r l => ?_) hv
  rw [overLanes_apply]
  show IntOp.xori (b (ix2 r (0 : Fin 1))) (a (ix2 r (0 : Fin 1))) = _
  rw [hb, ha, xori_ofBool]

theorem asc1_reads (hv : Reads v V) : Reads (asc1 v) (fun l => passes 1 (V l)) := exch_reads_of (e := 0) rfl _ hv
theorem asc2_reads (hv : Reads v V) : Reads (asc2 v) (fun l => passes 2 (V l)) := asc1_reads (exch_reads_of (e := 1) rfl _ hv)
theorem asc3_reads (hv : Reads v V) : Reads (asc3 v) (fun l => passes 3 (V l)) := asc2_reads (exch_reads_of (e := 2) rfl _ hv)
theorem asc4_reads (hv : Reads v V) : Reads (asc4 v) (fun l => passes 4 (V l)) := asc3_reads (exch_reads_of (e := 3) rfl _ hv)
theorem asc5_reads (hv : Reads v V) : Reads (asc5 v) (fun l => passes 5 (V l)) := asc4_reads (exch_reads_of (e := 4) rfl _ hv)
theorem asc6_reads (hv : Reads v V) : Reads (asc6 v) (fun l => passes 6 (V l)) := asc5_reads (exch_reads_of (e := 5) rfl _ hv)
theorem asc7_reads (hv : Reads v V) : Reads (asc7 v) (fun l => passes 7 (V l)) := asc6_reads (exch_reads_of (e := 6) rfl _ hv)

theorem sort7_reads (hv : Reads v V) : Reads (sort7 v) (fun l => joint 7 (V l)) := by
  have h1 : Reads (asc1 (between (rowBit 2#32) (cmpi .slt rowIx (broadcast S128x1 0#32)) v)) (fun l => joint 1 (V l)) := by
    have := asc1_reads (between_reads (f := bit 1) (g := fun _ => false) (rowBit_apply 1 (by decide) rfl) noRow_apply hv)
    simp only [Bool.xor_false] at this
    simp only [joint_one]
    exact this
  have h2 := asc2_reads (between_reads (rowBit_apply 2 (by decide) (b := 4#32) rfl) (rowBit_apply 1 (by decide) (b := 2#32) rfl) h1)
  have h3 := asc3_reads (between_reads (rowBit_apply 3 (by decide) (b := 8#32) rfl) (rowBit_apply 2 (by decide) (b := 4#32) rfl) h2)
  have h4 := asc4_reads (between_reads (rowBit_apply 4 (by decide) (b := 16#32) rfl) (rowBit_apply 3 (by decide) (b := 8#32) rfl) h3)
  have h5 := asc5_reads (between_reads (rowBit_apply 5 (by decide) (b := 32#32) rfl) (rowBit_apply 4 (by decide) (b := 16#32) rfl) h4)
  have h6 := asc6_reads (between_reads (rowBit_apply 6 (by decide) (b := 64#32) rfl) (rowBit_apply 5 (by decide) (b := 32#32) rfl) h5)
  exact asc7_reads (between_reads (rowBit_apply 7 (by decide) (b := 128#32) rfl) (rowBit_apply 6 (by decide) (b := 64#32) rfl) h6)

/-- A column as device `c` sorts it: upwards on even devices, downwards on odd ones. -/
def blockSort (c : ℕ) (v : Col) : Col :=
  turn (fun _ => decide (c % 2 = 1)) (levels 7 (turn (fun _ => decide (c % 2 = 1)) v))

theorem isOdd_eq (c : Dev nD) : isOdd c = BitVec.ofBool (decide (c.val % 2 = 1)) := by
  revert c; decide

theorem localOut_reads (c : Dev nD) (hv : Reads v V) : Reads (localOut c v) (fun l => blockSort c.val (V l)) := by
  rw [localOut_eq]
  unfold same
  rw [shapeCast_same, shapeCast_same]
  have h := flipAll_reads (isOdd_eq c) (sort7_reads (flipAll_reads (isOdd_eq c) hv))
  intro r l
  refine (h r l).trans ?_
  have h7 : bit 7 r.val = false := by
    have := r.isLt
    unfold bit
    exact decide_eq_false (by omega)
  unfold blockSort
  simp only [← turn_joint]
  generalize joint 7 (turn (fun _ => decide (c.val % 2 = 1)) (V l)) = w
  unfold turn
  rw [h7]
  rfl

end reading

/-! ## What the local sort does to a column -/

theorem blockSort_perm (c : ℕ) (v : Col) : ∃ σ : Equiv.Perm (Fin 128), ∀ i : Fin 128, blockSort c v i.val = v (σ i).val := by
  obtain ⟨σ, hσ⟩ := levels_perm (p := 7) 7 le_rfl (turn (fun _ => decide (c % 2 = 1)) v)
  refine ⟨σ, fun i => ?_⟩
  have h := hσ i
  unfold blockSort
  unfold turn at h ⊢
  rw [h]
  by_cases hc : c % 2 = 1 <;> simp [hc]

theorem blockSort_up (c : ℕ) (hc : c % 2 = 0) (v : Col) : Up (blockSort c v) 0 128 := by
  have h := alternates_levels 7 (turn (fun _ => decide (c % 2 = 1)) v) 0
  rw [if_pos rfl] at h
  intro i j hij hj
  have := h i j hij hj
  unfold blockSort
  generalize levels 7 (turn (fun _ => decide (c % 2 = 1)) v) = w at this ⊢
  unfold turn
  rw [decide_eq_false (by omega)]
  exact this

theorem blockSort_down (c : ℕ) (hc : c % 2 = 1) (v : Col) : Down (blockSort c v) 0 128 := by
  have h := alternates_levels 7 (turn (fun _ => decide (c % 2 = 1)) v) 0
  rw [if_pos rfl] at h
  intro i j hij hj
  have := h i j hij hj
  unfold blockSort
  generalize levels 7 (turn (fun _ => decide (c % 2 = 1)) v) = w at this ⊢
  unfold turn
  rw [decide_eq_true hc]
  exact EReal.neg_le_neg_iff.mpr this

end Cert.SortProof

end
-- ==== Proof.Merge.lean ====
module

public import proofs.«01_k».proof.Proof.Schedule
public import proofs.«01_k».proof.Proof.Passes

/-! # The gathered blocks, merged

The program packs the 2048 gathered rows into 1024 rows of twice the lanes, merges them in three levels, and follows the
last level only towards the device's own 128 rows. Here this is written as exchange passes, sign changes and halvings,
and read as the levels of the sort of a whole column.
-/

@[expose] public section

noncomputable section

namespace Cert.SortProof

open Cert.KernelIdeal Cert.KernelIdeal.Gen
open Idealize.ShloMosaic

section printed
variable {F : FTy → Type} [FloatOps F]

/-- The row numbers of the packed array, and the mask of the rows whose number has a bit of `b` set. -/
def packedRowBit (b : BitVec 32) : IVec S1024x1 1 :=
  cmpi .ne (andi (iota .tc S1024x1 32 [0] iota_S1024x1_d0_w32) (broadcast S1024x1 b)) (broadcast S1024x1 0#32)
/-- A mask of rows over the lanes. -/
def acrossLanes (k : IVec S1024x1 1) : IVec S1024x128 1 :=
  broadcastTo S1024x128 (shapeCast S1024x1 k shapeCasts_S1024x1_S1024x1) broadcasts_S1024x1_S1024x128
/-- The mask of the upper lanes over the rows. -/
def acrossRows (k : IVec S1x128 1) : IVec S1024x128 1 :=
  broadcastTo S1024x128 (shapeCast S1x128 k shapeCasts_S1x128_S1x128) broadcasts_S1x128_S1024x128
/-- Rows and lanes masks combined. -/
def crossed (k : IVec S1024x1 1) (k' : IVec S1x128 1) : IVec S1024x128 1 :=
  xori (broadcastTo S1024x128 (broadcastTo S1024x128 k broadcasts_S1024x1_S1024x128) broadcasts_S1024x128_S1024x128)
    (broadcastTo S1024x128 (broadcastTo S1024x128 k' broadcasts_S1x128_S1024x128) broadcasts_S1024x128_S1024x128)

def up4 (v : FVec F S1024x128 .f32) : FVec F S1024x128 .f32 :=
  exch (G := 512) (s := 1) (cuts rfl) (exch (G := 256) (s := 2) (cuts rfl) (exch (G := 128) (s := 4) (cuts rfl) (exch (G := 64) (s := 8) (cuts rfl) v)))
def up8 (v : FVec F S1024x128 .f32) : FVec F S1024x128 .f32 :=
  up4 (exch (G := 32) (s := 16) (cuts rfl) (exch (G := 16) (s := 32) (cuts rfl) (exch (G := 8) (s := 64) (cuts rfl) (exch (G := 4) (s := 128) (cuts rfl) v))))
def up9 (v : FVec F S1024x128 .f32) : FVec F S1024x128 .f32 := up8 (exch (G := 2) (s := 256) (cuts rfl) v)
def up10 (v : FVec F S1024x128 .f32) : FVec F S1024x128 .f32 := up9 (exch (G := 1) (s := 512) (cuts rfl) v)

/-- Two arrays side by side. -/
def sideBySide (a b : FVec F S1024x64 .f32) : FVec F S1024x128 .f32 :=
  concatenate S1024x128 1 [⟨S1024x64, a⟩, ⟨S1024x64, b⟩] concatenates_S1024x64_S1024x64_S1024x128_d1

/-- The gathered blocks one above the other, the second half of the rows moved into the upper lanes. -/
def stacked (g : FVec F S16x128x64 .f32) : FVec F S2048x64 .f32 := shapeCast S2048x64 g shapeCasts_S16x128x64_S2048x64
def packed (g : FVec F S16x128x64 .f32) : FVec F S1024x128 .f32 :=
  sideBySide (extractStridedSlice S1024x64 ![0, 0] (stacked g) slices_S2048x64_o0_0_S1024x64)
    (extractStridedSlice S1024x64 ![1024, 0] (stacked g) slices_S2048x64_o1024_0_S1024x64)

/-- Three levels of the merge. -/
def threeLevels (v : FVec F S1024x128 .f32) : FVec F S1024x128 .f32 :=
  flipAt (acrossRows upperLanes) (up10 (flipAt (crossed (packedRowBit 512#32) upperLanes)
    (up9 (flipAt (acrossLanes (xori (packedRowBit 256#32) (packedRowBit 512#32)))
      (up8 (flipAt (acrossLanes (packedRowBit 256#32)) v))))))

/-- The exchange between the lane halves. -/
def acrossHalves (v : FVec F S1024x128 .f32) : FVec F S1024x128 .f32 :=
  sideBySide
    (minimumf (extractStridedSlice S1024x64 ![0, 0] v slices_S1024x128_o0_0_S1024x64) (extractStridedSlice S1024x64 ![0, 64] v slices_S1024x128_o0_64_S1024x64))
    (maximumf (extractStridedSlice S1024x64 ![0, 0] v slices_S1024x128_o0_0_S1024x64) (extractStridedSlice S1024x64 ![0, 64] v slices_S1024x128_o0_64_S1024x64))

theorem half512_eq (c : Dev nD) (g : FVec F S16x128x64 .f32) : half512 c g =
    if c.val % 8 < 4 then shapeCast S512x128 (keepMin slices_S1024x128_o0_0_S512x128 slices_S1024x128_o512_0_S512x128 (acrossHalves (threeLevels (packed g)))) shapeCasts_S512x128_S512x128
    else shapeCast S512x128 (keepMax slices_S1024x128_o0_0_S512x128 slices_S1024x128_o512_0_S512x128 (acrossHalves (threeLevels (packed g)))) shapeCasts_S512x128_S512x128 := rfl

theorem half256_eq (c : Dev nD) (w : FVec F S512x128 .f32) : half256 c w =
    if c.val % 4 < 2 then shapeCast S256x128 (keepMin slices_S512x128_o0_0_S256x128 slices_S512x128_o256_0_S256x128 w) shapeCasts_S256x128_S256x128
    else shapeCast S256x128 (keepMax slices_S512x128_o0_0_S256x128 slices_S512x128_o256_0_S256x128 w) shapeCasts_S256x128_S256x128 := rfl

theorem half128_eq (c : Dev nD) (w : FVec F S256x128 .f32) : half128 c w =
    if c.val % 2 < 1 then shapeCast S128x128 (keepMin slices_S256x128_o0_0_S128x128 slices_S256x128_o128_0_S128x128 w) shapeCasts_S128x128_S128x128
    else shapeCast S128x128 (keepMax slices_S256x128_o0_0_S128x128 slices_S256x128_o128_0_S128x128 w) shapeCasts_S128x128_S128x128 := rfl

/-- The last seven passes, on the device's own rows. -/
def last7 (v : FVec F S128x128 .f32) : FVec F S128x128 .f32 :=
  exch (G := 64) (s := 1) (cuts rfl) (exch (G := 32) (s := 2) (cuts rfl) (exch (G := 16) (s := 4) (cuts rfl) (exch (G := 8) (s := 8) (cuts rfl)
    (exch (G := 4) (s := 16) (cuts rfl) (exch (G := 2) (s := 32) (cuts rfl) (exch (G := 1) (s := 64) (cuts rfl) v))))))

theorem lastOut_eq (c : Dev nD) (w : FVec F S128x128 .f32) : lastOut c w =
    if c.val < 8 then extractStridedSlice S128x64 ![0, 0] (last7 w) slices_S128x128_o0_0_S128x64
    else extractStridedSlice S128x64 ![0, 64] (last7 w) slices_S128x128_o0_64_S128x64 := rfl

end printed

/-! ## The masks, read -/

theorem acrossLanes_apply (k : IVec S1024x1 1) (r : Fin 1024) (l : Fin 128) : acrossLanes k (ix2 r l) = k (ix2 r (0 : Fin 1)) := by
  unfold acrossLanes
  rw [shapeCast_same]
  refine broadcastTo_apply _ _ _ _ fun a => ?_
  match a with
  | ⟨0, _⟩ => rfl
  | ⟨1, _⟩ => rfl

theorem acrossRows_apply (k : IVec S1x128 1) (r : Fin 1024) (l : Fin 128) : acrossRows k (ix2 r l) = k (ix2 (0 : Fin 1) l) := by
  unfold acrossRows
  rw [shapeCast_same]
  refine broadcastTo_apply _ _ _ _ fun a => ?_
  match a with
  | ⟨0, _⟩ => rfl
  | ⟨1, _⟩ => rfl

theorem crossed_apply (k : IVec S1024x1 1) (k' : IVec S1x128 1) (r : Fin 1024) (l : Fin 128) :
    crossed k k' (ix2 r l) = IntOp.xori (k (ix2 r (0 : Fin 1))) (k' (ix2 (0 : Fin 1) l)) := by
  unfold crossed
  refine congrArg₂ IntOp.xori ?_ ?_
  · refine (broadcastTo_apply _ _ _ (ix2 r l) fun a => ?_).trans (broadcastTo_apply _ _ _ _ fun a => ?_) <;>
      match a with
      | ⟨0, _⟩ => rfl
      | ⟨1, _⟩ => rfl
  · refine (broadcastTo_apply _ _ _ (ix2 r l) fun a => ?_).trans (broadcastTo_apply _ _ _ _ fun a => ?_) <;>
      match a with
      | ⟨0, _⟩ => rfl
      | ⟨1, _⟩ => rfl

theorem packedRowBit_apply {b : BitVec 32} (k : ℕ) (hk : k < 32) (hb : b = BitVec.ofNat 32 (2 ^ k)) (r : Fin 1024) :
    packedRowBit b (ix2 r (0 : Fin 1)) = BitVec.ofBool (bit k r.val) := by
  subst hb
  have hr : (iota .tc S1024x1 32 [0] iota_S1024x1_d0_w32 : IVec S1024x1 32) (ix2 r (0 : Fin 1)) = BitVec.ofNat 32 r.val := by
    show BitVec.ofNat 32 _ = _
    congr 1
    show 0 * _ + r.val = r.val
    omega
  show IntOp.cmpi .ne (IntOp.andi ((iota .tc S1024x1 32 [0] iota_S1024x1_d0_w32 : IVec S1024x1 32) (ix2 r (0 : Fin 1))) (BitVec.ofNat 32 (2 ^ k))) 0#32 = _
  rw [hr]
  exact word_bit r.val k (by have := r.isLt; omega) hk

theorem upperLanes_apply (l : Fin 128) : upperLanes (ix2 (0 : Fin 1) l) = BitVec.ofBool (decide (64 ≤ l.val)) := by
  have hl : laneIx (ix2 (0 : Fin 1) l) = BitVec.ofNat 32 l.val := by
    show BitVec.ofNat 32 _ = _
    congr 1
    show 0 * _ + l.val = l.val
    omega
  show IntOp.cmpi .sge (laneIx (ix2 (0 : Fin 1) l)) 64#32 = _
  rw [hl]
  revert l
  decide

/-! ## The packed array as columns -/

/-- The row of the column at which a packed lane starts, and the column it belongs to. -/
def laneStart (l : Fin 128) : ℕ := l.val / 64 * 1024
def laneCol (l : Fin 128) : Fin 64 := ⟨l.val % 64, Nat.mod_lt _ (by decide)⟩

theorem laneStart_dvd {k : ℕ} (hk : k ≤ 10) (l : Fin 128) : 2 ^ k ∣ laneStart l :=
  Dvd.dvd.mul_left (pow_dvd_pow 2 hk : 2 ^ k ∣ 2 ^ 10) _

theorem bit_packed {k : ℕ} (hk : k < 10) (r : Fin 1024) (l : Fin 128) : bit k r.val = bit k (laneStart l + r.val) := by
  obtain ⟨a, ha⟩ := laneStart_dvd (k := k + 1) hk l
  unfold bit
  rw [ha, show 2 ^ (k + 1) * a + r.val = r.val + 2 ^ k * (2 * a) by rw [pow_succ]; ring, Nat.add_mul_div_left _ _ (Nat.two_pow_pos k)]
  congr 1
  rw [Nat.add_mul_mod_self_left]

theorem upper_packed (r : Fin 1024) (l : Fin 128) : decide (64 ≤ l.val) = bit 10 (laneStart l + r.val) := by
  unfold bit laneStart
  have h1 := r.isLt
  have h2 := l.isLt
  refine decide_eq_decide.mpr ?_
  constructor <;> intro h <;> omega

theorem sideBySide_low (a b : FVec Ideal S1024x64 .f32) (r : Fin 1024) (l : Fin 64) (hl : l.val < 128) :
    sideBySide a b (ix2 r ⟨l.val, hl⟩) = a (ix2 r l) := by
  unfold sideBySide
  refine concatenate_pair_apply_left (t := S1024x128) (s₁ := S1024x64) (s₂ := S1024x64) (1 : Fin 2) _ _ _ _ rfl (ix2 r l) fun x => ?_
  match x with
  | ⟨0, _⟩ => rfl
  | ⟨1, _⟩ => rfl

theorem sideBySide_high (a b : FVec Ideal S1024x64 .f32) (r : Fin 1024) (l : Fin 64) (hl : 64 + l.val < 128) :
    sideBySide a b (ix2 r ⟨64 + l.val, hl⟩) = b (ix2 r l) := by
  unfold sideBySide
  refine concatenate_pair_apply_right (t := S1024x128) (s₁ := S1024x64) (s₂ := S1024x64) (1 : Fin 2) _ _ _ _ rfl rfl (ix2 r l) (fun x hx => ?_) ?_
  · match x with
    | ⟨0, _⟩ => rfl
    | ⟨1, _⟩ => exact absurd rfl hx
  · show l.val + 64 = 64 + l.val
    omega

/-- A lane lies in the lower or in the upper half. -/
theorem lane_cases (l : Fin 128) : (∃ h : (laneCol l).val < 128, l = ⟨(laneCol l).val, h⟩ ∧ laneStart l = 0) ∨
    (∃ h : 64 + (laneCol l).val < 128, l = ⟨64 + (laneCol l).val, h⟩ ∧ laneStart l = 1024) := by
  have h := l.isLt
  unfold laneCol laneStart
  by_cases hl : l.val < 64
  · exact Or.inl ⟨by show l.val % 64 < 128; omega, Fin.ext (by show l.val = l.val % 64; omega), by omega⟩
  · exact Or.inr ⟨by show 64 + l.val % 64 < 128; omega, Fin.ext (by show l.val = 64 + l.val % 64; omega), by omega⟩

/-- The whole columns of the gathered blocks, the blocks one above the other. -/
def wholeCol (g : FVec Ideal S16x128x64 .f32) (l : Fin 64) : Col :=
  fun P => g (ix3 ⟨P / 128 % 16, Nat.mod_lt _ (by decide)⟩ ⟨P % 128, Nat.mod_lt _ (by decide)⟩ l)

theorem stacked_reads (g : FVec Ideal S16x128x64 .f32) : Reads (stacked g) (wholeCol g) := by
  intro r l
  unfold stacked
  refine shapeCast_apply _ _ _ _ ?_
  rw [Shape.rowMajor_val_three, Shape.rowMajor_val_two]
  have := r.isLt
  show (r.val / 128 % 16 * 128 + r.val % 128) * 64 + l.val = r.val * 64 + l.val
  omega

theorem packed_held (g : FVec Ideal S16x128x64 .f32) : Held (packed g) laneStart (fun l => wholeCol g (laneCol l)) := by
  intro r l
  show packed g (ix2 r l) = wholeCol g (laneCol l) (laneStart l + r.val)
  have hr := r.isLt
  unfold packed
  rcases lane_cases l with ⟨h, hl, hs⟩ | ⟨h, hl, hs⟩
  · rw [hs]
    generalize laneCol l = q at h hl ⊢
    subst hl
    rw [sideBySide_low, slice_apply _ _ _ _ (by omega) (by omega), (stacked_reads g).at]
    exact congrArg (fun x => wholeCol g x _) (Fin.ext (Nat.zero_add _))
  · rw [hs]
    generalize laneCol l = q at h hl ⊢
    subst hl
    rw [sideBySide_high, slice_apply _ _ _ _ (by omega) (by omega), (stacked_reads g).at]
    exact congrArg (fun x => wholeCol g x _) (Fin.ext (Nat.zero_add _))

section reading
variable {v : FVec Ideal S1024x128 .f32}

theorem up4_held {V : Fin 128 → Col} (hv : Held v laneStart V) : Held (up4 v) laneStart (fun l => passes 4 (V l)) :=
  exch_held (e := 0) rfl _ (laneStart_dvd (by decide)) (exch_held (e := 1) rfl _ (laneStart_dvd (by decide))
    (exch_held (e := 2) rfl _ (laneStart_dvd (by decide)) (exch_held (e := 3) rfl _ (laneStart_dvd (by decide)) hv)))
theorem up8_held {V : Fin 128 → Col} (hv : Held v laneStart V) : Held (up8 v) laneStart (fun l => passes 8 (V l)) :=
  up4_held (exch_held (e := 4) rfl _ (laneStart_dvd (by decide)) (exch_held (e := 5) rfl _ (laneStart_dvd (by decide))
    (exch_held (e := 6) rfl _ (laneStart_dvd (by decide)) (exch_held (e := 7) rfl _ (laneStart_dvd (by decide)) hv))))
theorem up9_held {V : Fin 128 → Col} (hv : Held v laneStart V) : Held (up9 v) laneStart (fun l => passes 9 (V l)) :=
  up8_held (exch_held (e := 8) rfl _ (laneStart_dvd (by decide)) hv)
theorem up10_held {V : Fin 128 → Col} (hv : Held v laneStart V) : Held (up10 v) laneStart (fun l => passes 10 (V l)) :=
  up9_held (exch_held (e := 9) rfl _ (laneStart_dvd (by decide)) hv)

/-- The three levels of the merge, on a whole column. -/
def merged (v : Col) : Col := level 10 (level 9 (level 8 v))

theorem threeLevels_held {V : Fin 128 → Col} (hv : Held v laneStart V) : Held (threeLevels v) laneStart (fun l => merged (V l)) := by
  have h8 := up8_held (flipAt_held (k := acrossLanes (packedRowBit 256#32)) (m := bit 8) (fun r l => by
    rw [acrossLanes_apply, packedRowBit_apply (b := 256#32) 8 (by decide) rfl, bit_packed (by decide) r l]) hv)
  have h9 := up9_held (flipAt_held (k := acrossLanes (xori (packedRowBit 256#32) (packedRowBit 512#32))) (m := fun r => xor (bit 8 r) (bit 9 r)) (fun r l => by
    rw [acrossLanes_apply]
    show IntOp.xori (packedRowBit 256#32 (ix2 r (0 : Fin 1))) (packedRowBit 512#32 (ix2 r (0 : Fin 1))) = _
    rw [packedRowBit_apply (b := 256#32) 8 (by decide) rfl, packedRowBit_apply (b := 512#32) 9 (by decide) rfl, bit_packed (k := 8) (by decide) r l, bit_packed (k := 9) (by decide) r l, xori_ofBool]) h8)
  have h10 := up10_held (flipAt_held (k := crossed (packedRowBit 512#32) upperLanes) (m := fun r => xor (bit 9 r) (bit 10 r)) (fun r l => by
    rw [crossed_apply, packedRowBit_apply (b := 512#32) 9 (by decide) rfl, upperLanes_apply, bit_packed (k := 9) (by decide) r l, upper_packed r l, xori_ofBool]) h9)
  have h := flipAt_held (k := acrossRows upperLanes) (m := bit 10) (fun r l => by
    rw [acrossRows_apply, upperLanes_apply, upper_packed r l]) h10
  refine fun r l => (h r l).trans ?_
  have e : ∀ w : Col, merged w = turn (bit 10) (passes 10 (turn (fun r => xor (bit 9 r) (bit 10 r)) (passes 9 (turn (fun r => xor (bit 8 r) (bit 9 r)) (passes 8 (turn (bit 8) w)))))) := by
    intro w
    rw [turn_xor (bit 9) (bit 10), turn_comm (bit 9) (bit 10), turn_xor (bit 8) (bit 9), turn_comm (bit 8) (bit 9)]
    rfl
  simp only [e]

theorem acrossHalves_held {U : Fin 64 → Col} (hv : Held v laneStart (fun l => U (laneCol l))) :
    Held (acrossHalves v) laneStart (fun l => pass 10 (U (laneCol l))) := by
  intro r l
  show acrossHalves v (ix2 r l) = pass 10 (U (laneCol l)) (laneStart l + r.val)
  have hr := r.isLt
  have low : ∀ q : Fin 64, extractStridedSlice S1024x64 ![0, 0] v slices_S1024x128_o0_0_S1024x64 (ix2 r q) = U q r.val := by
    intro q
    have hq := q.isLt
    rw [slice_apply _ _ _ _ (by omega) (by omega), hv.at]
    have e1 : laneCol ⟨0 + q.val, by omega⟩ = q := Fin.ext (by show (0 + q.val) % 64 = q.val; omega)
    have e2 : laneStart ⟨0 + q.val, by omega⟩ + (0 + r.val) = r.val := by
      show (0 + q.val) / 64 * 1024 + (0 + r.val) = r.val
      omega
    rw [e2]
    exact congrArg (fun x => U x r.val) e1
  have high : ∀ q : Fin 64, extractStridedSlice S1024x64 ![0, 64] v slices_S1024x128_o0_64_S1024x64 (ix2 r q) = U q (1024 + r.val) := by
    intro q
    have hq := q.isLt
    rw [slice_apply _ _ _ _ (by omega) (by omega), hv.at]
    have e1 : laneCol ⟨64 + q.val, by omega⟩ = q := Fin.ext (by show (64 + q.val) % 64 = q.val; omega)
    have e2 : laneStart ⟨64 + q.val, by omega⟩ + (0 + r.val) = 1024 + r.val := by
      show (64 + q.val) / 64 * 1024 + (0 + r.val) = 1024 + r.val
      omega
    rw [e2]
    exact congrArg (fun x => U x (1024 + r.val)) e1
  unfold acrossHalves pass
  rcases lane_cases l with ⟨h, hl, hs⟩ | ⟨h, hl, hs⟩
  · rw [hs, if_pos (by omega)]
    generalize laneCol l = q at h hl ⊢
    subst hl
    rw [sideBySide_low]
    show min _ _ = _
    rw [low, high, Nat.zero_add, Nat.add_comm r.val]
    rfl
  · rw [hs, if_neg (by omega)]
    generalize laneCol l = q at h hl ⊢
    subst hl
    rw [sideBySide_high]
    show max _ _ = _
    rw [low, high]
    congr 2
    omega

end reading

/-- One halving, towards the lower or the upper rows. -/
theorem halving_held {e M N n : ℕ} (b : Prop) [Decidable b] (hM : M = 2 ^ e) (hN : N = M + M)
    (h0 : Shape.Slices ⟨2, ![N, n]⟩ ![0, 0] ⟨2, ![M, n]⟩) (h1 : Shape.Slices ⟨2, ![N, n]⟩ ![M, 0] ⟨2, ![M, n]⟩) (hc : Shape.ShapeCasts ⟨2, ![M, n]⟩ ⟨2, ![M, n]⟩)
    {v : FVec Ideal ⟨2, ![N, n]⟩ .f32} {pos : Fin n → ℕ} {V : Fin n → Col} (hp : ∀ l, 2 ^ (e + 1) ∣ pos l) (hv : Held v pos V) :
    Held (if b then shapeCast ⟨2, ![M, n]⟩ (keepMin h0 h1 v) hc else shapeCast ⟨2, ![M, n]⟩ (keepMax h0 h1 v) hc)
      (fun l => pos l + if b then 0 else M) (fun l => pass e (V l)) := by
  rw [shapeCast_same, shapeCast_same]
  by_cases hb : b
  · simp only [if_pos hb]
    exact keepMin_held hM hN h0 h1 hp hv
  · simp only [if_neg hb]
    exact keepMax_held hM hN h0 h1 hp hv

section last
variable {v : FVec Ideal S128x128 .f32} {pos : Fin 128 → ℕ} {V : Fin 128 → Col}

theorem last7_held (hp : ∀ l, 2 ^ 7 ∣ pos l) (hv : Held v pos V) : Held (last7 v) pos (fun l => passes 7 (V l)) := by
  have d : ∀ k, k ≤ 7 → ∀ l, 2 ^ k ∣ pos l := fun k hk l => (pow_dvd_pow 2 hk).trans (hp l)
  exact exch_held (e := 0) rfl _ (d 1 (by decide)) (exch_held (e := 1) rfl _ (d 2 (by decide)) (exch_held (e := 2) rfl _ (d 3 (by decide))
    (exch_held (e := 3) rfl _ (d 4 (by decide)) (exch_held (e := 4) rfl _ (d 5 (by decide)) (exch_held (e := 5) rfl _ (d 6 (by decide))
      (exch_held (e := 6) rfl _ (d 7 (by decide)) hv))))))

end last

/-- What the merge leaves on device `c`: its 128 rows of the merged columns. -/
theorem mergeOut_apply (c : Dev nD) (g : FVec Ideal S16x128x64 .f32) (r : Fin 128) (l : Fin 64) :
    mergeOut c g (ix2 r l) = passes 11 (merged (wholeCol g l)) (128 * c.val + r.val) := by
  have hc : c.val < 16 := c.isLt
  have hl := l.isLt
  have h10 := acrossHalves_held (U := fun l => merged (wholeCol g l)) (threeLevels_held (packed_held g))
  have h9 := halving_held (e := 9) (M := 512) (N := 1024) (c.val % 8 < 4) rfl rfl slices_S1024x128_o0_0_S512x128 slices_S1024x128_o512_0_S512x128 shapeCasts_S512x128_S512x128
    (laneStart_dvd le_rfl) h10
  have d9 : ∀ l, 2 ^ (8 + 1) ∣ laneStart l + if c.val % 8 < 4 then 0 else 512 := fun l =>
    Nat.dvd_add (laneStart_dvd (by decide) l) (by split <;> decide)
  have h8 := halving_held (e := 8) (M := 256) (N := 512) (c.val % 4 < 2) rfl rfl slices_S512x128_o0_0_S256x128 slices_S512x128_o256_0_S256x128 shapeCasts_S256x128_S256x128
    d9 h9
  have d8 : ∀ l, 2 ^ (7 + 1) ∣ (laneStart l + if c.val % 8 < 4 then 0 else 512) + if c.val % 4 < 2 then 0 else 256 := fun l =>
    Nat.dvd_add ((pow_dvd_pow 2 (by decide)).trans (d9 l)) (by split <;> decide)
  have h7 := halving_held (e := 7) (M := 128) (N := 256) (c.val % 2 < 1) rfl rfl slices_S256x128_o0_0_S128x128 slices_S256x128_o128_0_S128x128 shapeCasts_S128x128_S128x128
    d8 h8
  have d7 : ∀ l, 2 ^ 7 ∣ ((laneStart l + if c.val % 8 < 4 then 0 else 512) + if c.val % 4 < 2 then 0 else 256) + if c.val % 2 < 1 then 0 else 128 := fun l =>
    Nat.dvd_add ((pow_dvd_pow 2 (by decide)).trans (d8 l)) (by split <;> decide)
  have h := last7_held d7 h7
  unfold mergeOut
  rw [lastOut_eq, half128_eq, half256_eq, half512_eq]
  have e1 : ∀ x : Fin 128, laneCol x = l → (((laneStart x + if c.val % 8 < 4 then 0 else 512) + if c.val % 4 < 2 then 0 else 256) + if c.val % 2 < 1 then 0 else 128) + r.val = 128 * c.val + r.val →
      last7 (if c.val % 2 < 1 then shapeCast S128x128 (keepMin slices_S256x128_o0_0_S128x128 slices_S256x128_o128_0_S128x128 (half256 c (half512 c g))) shapeCasts_S128x128_S128x128
        else shapeCast S128x128 (keepMax slices_S256x128_o0_0_S128x128 slices_S256x128_o128_0_S128x128 (half256 c (half512 c g))) shapeCasts_S128x128_S128x128) (ix2 r x)
        = passes 11 (merged (wholeCol g l)) (128 * c.val + r.val) := by
    intro x hx hp
    refine (h r x).trans ?_
    show passes 11 (merged (wholeCol g (laneCol x))) _ = _
    rw [hx, hp]
  by_cases h8 : c.val < 8
  · rw [if_pos h8, slice_apply _ _ _ _ (by omega) (by omega)]
    refine (congrArg _ ?_).trans (e1 ⟨0 + l.val, by omega⟩ (Fin.ext (by show (0 + l.val) % 64 = l.val; omega)) ?_)
    · exact congrArg (fun y => ix2 y _) (Fin.ext (Nat.zero_add _))
    · show (((0 + l.val) / 64 * 1024 + _) + _) + _ + r.val = _
      split <;> split <;> split <;> omega
  · rw [if_neg h8, slice_apply _ _ _ _ (by omega) (by omega)]
    refine (congrArg _ ?_).trans (e1 ⟨64 + l.val, by omega⟩ (Fin.ext (by show (64 + l.val) % 64 = l.val; omega)) ?_)
    · exact congrArg (fun y => ix2 y _) (Fin.ext (Nat.zero_add _))
    · show (((64 + l.val) / 64 * 1024 + _) + _) + _ + r.val = _
      split <;> split <;> split <;> omega

end Cert.SortProof

end
-- ==== Proof.Sorted.lean ====
module

public import proofs.«01_k».proof.Proof.Local
public import proofs.«01_k».proof.Proof.Merge
public import Mathlib.Logic.Equiv.Fin.Basic
public import Mathlib.Logic.Equiv.Prod

/-! # A whole column, sorted

The blocks of a column, sorted upwards and downwards in turn, are merged by three levels and a last run of passes into one
ascending column of the same entries.
-/

@[expose] public section

noncomputable section

namespace Cert.SortProof

/-- The column of the blocks, each sorted by its device. -/
def blocksSorted (U : Col) : Col := fun P => blockSort (P / 128 % 16) (fun j => U (128 * (P / 128 % 16) + j)) (P % 128)

theorem blocksSorted_at (U : Col) (a i : ℕ) (hi : i < 128) :
    blocksSorted U (a * 2 ^ 7 + i) = blockSort (a % 16) (fun j => U (128 * (a % 16) + j)) i := by
  unfold blocksSorted
  rw [show (a * 2 ^ 7 + i) / 128 = a by omega, show (a * 2 ^ 7 + i) % 128 = i by omega]

/-- The blocks ascend and descend in turn. -/
theorem blocksSorted_alternates (U : Col) : Alternates 7 (blocksSorted U) := by
  intro a
  by_cases h : a % 2 = 0
  · rw [if_pos h]
    intro i j hij hj
    have h7 : j < 128 := hj
    rw [blocksSorted_at U a i (by omega), blocksSorted_at U a j h7]
    have := blockSort_up (a % 16) (by omega) (fun j => U (128 * (a % 16) + j)) i j hij h7
    rwa [Nat.zero_add, Nat.zero_add] at this
  · rw [if_neg h]
    intro i j hij hj
    have h7 : j < 128 := hj
    rw [blocksSorted_at U a i (by omega), blocksSorted_at U a j h7]
    have := blockSort_down (a % 16) (by omega) (fun j => U (128 * (a % 16) + j)) i j hij h7
    rwa [Nat.zero_add, Nat.zero_add] at this

/-- They hold the entries of the column. -/
theorem blocksSorted_perm (U : Col) : ∃ σ : Equiv.Perm (Fin (2 ^ 11)), ∀ i : Fin (2 ^ 11), blocksSorted U i.val = U (σ i).val := by
  have hblock : ∀ c : Fin 16, ∃ σ : Equiv.Perm (Fin 128), ∀ i : Fin 128,
      blockSort c.val (fun j => U (128 * c.val + j)) i.val = U (128 * c.val + (σ i).val) := fun c => blockSort_perm c.val _
  choose τ hτ using hblock
  let e : Fin 16 × Fin 128 ≃ Fin (2 ^ 11) := finProdFinEquiv
  have he : ∀ x, (e x).val = x.2.val + 128 * x.1.val := fun _ => rfl
  let s : Equiv.Perm (Fin 16 × Fin 128) := Equiv.prodShear (Equiv.refl (Fin 16)) τ
  have hs : ∀ x, s x = (x.1, τ x.1 x.2) := fun _ => rfl
  refine ⟨(e.symm.trans s).trans e, fun i => ?_⟩
  obtain ⟨x, rfl⟩ := e.surjective i
  rw [Equiv.trans_apply, Equiv.trans_apply, Equiv.symm_apply_apply, he, he, hs]
  have h1 := x.1.isLt
  have h2 := x.2.isLt
  rw [show x.2.val + 128 * x.1.val = x.1.val * 2 ^ 7 + x.2.val by omega, blocksSorted_at U _ _ h2, Nat.mod_eq_of_lt h1, hτ, Nat.add_comm]

/-- The result column. -/
def resultCol (U : Col) : Col := passes 11 (merged (blocksSorted U))

theorem resultCol_up (U : Col) : Up (resultCol U) 0 2048 := by
  have h : Alternates 10 (merged (blocksSorted U)) := (blocksSorted_alternates U).level.level.level
  have := passes_up (k := 10) (a := 0) (Or.inl (h.halves 0))
  rwa [Nat.zero_mul] at this

theorem resultCol_perm (U : Col) : ∃ σ : Equiv.Perm (Fin 2048), ∀ i : Fin 2048, resultCol U i.val = U (σ i).val := by
  obtain ⟨σ0, h0⟩ := blocksSorted_perm U
  obtain ⟨σ1, h1⟩ := level_perm (p := 11) 8 (by decide) (blocksSorted U)
  obtain ⟨σ2, h2⟩ := level_perm (p := 11) 9 (by decide) (level 8 (blocksSorted U))
  obtain ⟨σ3, h3⟩ := level_perm (p := 11) 10 (by decide) (level 9 (level 8 (blocksSorted U)))
  obtain ⟨σ4, h4⟩ := passes_perm 11 (merged (blocksSorted U))
  refine ⟨(((σ4.trans σ3).trans σ2).trans σ1).trans σ0, fun i => ?_⟩
  refine (h4 i).trans ?_
  refine (h3 (σ4 i)).trans ?_
  rw [h2, h1, h0]
  rfl

end Cert.SortProof

end
-- ==== Proof.Value.lean ====
module

public import proofs.«01_k».proof.Proof.Sorted
public import proofs.«01_k».proof.Proof.Frames
public import Idealize.ShloMosaic.Lib.SortFacts
public import Idealize.ShloMosaic.Lib.Layout

/-! # The value claim

Over the extended reals the reference sorts every column; the kernel's result column ascends and holds the same entries;
so the two columns are one, and device `c` holds rows `128 c` to `128 c + 127` of it.
-/

@[expose] public section

noncomputable section

namespace Cert.SortProof

open Cert.KernelIdeal Cert.KernelIdeal.Gen
open Idealize.ShloMosaic Idealize.ShloMosaic.TcCoe Idealize.SL.Sem

/-! ## The reference's columns -/

/-- What the comparator compares is the entry itself: over the extended reals there is one zero and no NaN. -/
theorem keyed (x : EReal) : Scalar.select (BitVec.ofBool (decide (x ≠ x))) (Ideal.ofBits .f32 0x7FC00000#32)
    (Scalar.select (BitVec.ofBool (decide (x = Ideal.ofBits .f32 0x00000000#32))) (Ideal.ofBits .f32 0x00000000#32) x) = x := by
  have h1 : decide (x ≠ x) = false := decide_eq_false (fun h => h rfl)
  rw [h1]
  by_cases h : x = Ideal.ofBits .f32 0x00000000#32
  · rw [decide_eq_true h]
    exact h.symm
  · rw [decide_eq_false h]
    rfl

theorem comparator_lt (a b : EReal) : Cert.ReferenceIdeal.comparator_f32_d0 (F := Ideal) a b = BitVec.ofBool (decide (a < b)) := by
  unfold Cert.ReferenceIdeal.comparator_f32_d0
  show BitVec.ofBool (decide (Scalar.select (BitVec.ofBool (decide (a ≠ a))) (Ideal.ofBits .f32 0x7FC00000#32)
      (Scalar.select (BitVec.ofBool (decide (a = Ideal.ofBits .f32 0x00000000#32))) (Ideal.ofBits .f32 0x00000000#32) a)
    < Scalar.select (BitVec.ofBool (decide (b ≠ b))) (Ideal.ofBits .f32 0x7FC00000#32)
      (Scalar.select (BitVec.ofBool (decide (b = Ideal.ofBits .f32 0x00000000#32))) (Ideal.ofBits .f32 0x00000000#32) b))) = _
  rw [keyed, keyed]

/-- The whole input. -/
abbrev Input : Type := (⟨2, ![2048, 64]⟩ : Shape).Idx → EReal

/-- A column of the whole input, its rows counted round. -/
def inputCol (x : Input) (l : Fin 64) : Col := fun P => x (ix2 ⟨P % 2048, Nat.mod_lt _ (by decide)⟩ l)

/-- The reference's result. -/
def sorted (x : Input) : Input := Host.sort Cert.ReferenceIdeal.S2048x64 0 (Cert.ReferenceIdeal.comparator_f32_d0 (F := Ideal)) x

theorem inputCol_fin (x : Input) (l : Fin 64) (i : Fin 2048) : inputCol x l i.val = x (ix2 i l) := by
  unfold inputCol
  exact congrArg (fun y => x (ix2 y l)) (Fin.ext (Nat.mod_eq_of_lt i.isLt))

/-- A sort along the rows, read at an entry. -/
theorem sort_apply {N n : ℕ} (cmp : EReal → EReal → BitVec 1) (x : (⟨2, ![N, n]⟩ : Shape).Idx → EReal) (i : Fin N) (l : Fin n) :
    Host.sort ⟨2, ![N, n]⟩ 0 cmp x (ix2 i l) = x (ix2 (sortedFrom (fun k k' : Fin N => cmp (x (ix2 k l)) (x (ix2 k' l)) == 1#1) i) l) := by
  have ha : ∀ k : Fin N, Shape.Idx.along (s := ⟨2, ![N, n]⟩) (ix2 i l) (0 : Fin 2) k = ix2 k l := by
    intro k
    funext a
    match a with
    | ⟨0, _⟩ => rfl
    | ⟨1, _⟩ => rfl
  have hf : (fun k k' : Fin N => cmp (x (Shape.Idx.along (s := ⟨2, ![N, n]⟩) (ix2 i l) (0 : Fin 2) k)) (x (Shape.Idx.along (s := ⟨2, ![N, n]⟩) (ix2 i l) (0 : Fin 2) k')) == 1#1)
      = fun k k' : Fin N => cmp (x (ix2 k l)) (x (ix2 k' l)) == 1#1 := by
    funext k k'
    rw [ha, ha]
  refine Eq.trans (b := x (Shape.Idx.along (s := ⟨2, ![N, n]⟩) (ix2 i l) (0 : Fin 2) (sortedFrom (fun k k' : Fin N =>
    cmp (x (Shape.Idx.along (s := ⟨2, ![N, n]⟩) (ix2 i l) (0 : Fin 2) k)) (x (Shape.Idx.along (s := ⟨2, ![N, n]⟩) (ix2 i l) (0 : Fin 2) k')) == 1#1) i))) rfl ?_
  rw [hf]
  exact congrArg x (ha _)

/-- Positions sorted by a strict order ascend. -/
theorem sortedFrom_monotone {n : ℕ} (v : Fin n → EReal) : Monotone fun i => v (sortedFrom (fun k k' => decide (v k < v k')) i) := by
  intro i j hij
  rcases hij.lt_or_eq with h | h
  · have hn := sortedFrom_noInversion (fun k k' => decide (v k < v k')) (fun k k' => decide (v k < v k'))
      (fun a b h => decide_eq_false (not_lt.mpr (of_decide_eq_true h).le)) (fun _ _ h => h)
      (fun a b c h1 h2 => decide_eq_false (not_lt.mpr ((not_lt.mp (of_decide_eq_false h2)).trans (not_lt.mp (of_decide_eq_false h1))))) i j h
    exact not_lt.mp (of_decide_eq_false hn)
  · rw [h]

/-- The same as a permutation. -/
theorem sortedFrom_perm {n : ℕ} (v : Fin n → EReal) :
    ∃ τ : Equiv.Perm (Fin n), (∀ i, sortedFrom (fun k k' => decide (v k < v k')) i = τ i) ∧ Monotone fun i => v (τ i) :=
  ⟨Equiv.ofBijective _ ⟨sortedFrom_injective _, sortedFrom_surjective _⟩, fun _ => rfl, sortedFrom_monotone v⟩

/-- Each column of the reference's result ascends and holds the column's entries. -/
theorem sorted_col (x : Input) (l : Fin 64) : ∃ τ : Equiv.Perm (Fin 2048),
    (∀ i : Fin 2048, sorted x (ix2 i l) = x (ix2 (τ i) l)) ∧ Monotone fun i => x (ix2 (τ i) l) := by
  have hR : (fun k k' : Fin 2048 => Cert.ReferenceIdeal.comparator_f32_d0 (F := Ideal) (x (ix2 k l)) (x (ix2 k' l)) == 1#1)
      = fun k k' => decide (x (ix2 k l) < x (ix2 k' l)) := by
    funext k k'
    rw [comparator_lt]
    cases decide (x (ix2 k l) < x (ix2 k' l)) <;> rfl
  obtain ⟨τ, hτ, hm⟩ := sortedFrom_perm fun k : Fin 2048 => x (ix2 k l)
  refine ⟨τ, fun i => ?_, hm⟩
  refine (sort_apply _ x i l).trans ?_
  rw [hR, hτ]

/-- The kernel's result column is the reference's. -/
theorem resultCol_eq (x : Input) (l : Fin 64) (i : Fin 2048) : resultCol (inputCol x l) i.val = sorted x (ix2 i l) := by
  obtain ⟨σ, hσ⟩ := resultCol_perm (inputCol x l)
  obtain ⟨τ, hτ, hm⟩ := sorted_col x l
  have e : ∀ j : Fin 2048, resultCol (inputCol x l) j.val = x (ix2 (σ j) l) := fun j => (hσ j).trans (inputCol_fin x l _)
  have h := ascending_unique (fun j : Fin 2048 => x (ix2 j l)) σ τ (fun a b hab => by
    show x (ix2 (σ a) l) ≤ x (ix2 (σ b) l)
    rw [← e, ← e]
    have := resultCol_up (inputCol x l) a.val b.val hab b.isLt
    rwa [Nat.zero_add, Nat.zero_add] at this) hm
  rw [e, hτ]
  exact congrFun h i

/-! ## The kernel's result -/

section kernel
variable (m : (ℓ : Loc nD τ sig) → Buf (Elt Ideal) ℓ) (x : Input)

/-- Every device's argument is its block of the whole input. -/
def Splits : Prop := ∀ c : Dev nD, m ((c : Thread nD τ).loc main_arg0) = Layout.block ⟨2, ![128, 64]⟩ ⟨2, ![2048, 64]⟩ 0 16 c x

variable {m x}

theorem argument_reads (h : Splits m x) (c : Dev nD) : Reads (M := 128) (n := 64) (xstg m c) (fun l j => inputCol x l (128 * c.val + j)) := by
  intro r l
  have hc : c.val < 16 := c.isLt
  have hr := r.isLt
  rw [xstg_eq, h c, Layout.block_apply]
  unfold inputCol
  refine congrArg x (funext fun a => Fin.ext ?_)
  rw [Layout.Tiles.idx_val]
  match a with
  | ⟨0, _⟩ =>
    show c.val * 128 + r.val = (128 * c.val + r.val) % 2048
    omega
  | ⟨1, _⟩ => rfl

theorem gathered_col (h : Splits m x) (l : Fin 64) : wholeCol (gath m) l = blocksSorted (inputCol x l) := by
  funext P
  exact localOut_reads ⟨P / 128 % 16, Nat.mod_lt _ (by decide)⟩ (argument_reads h _) ⟨P % 128, Nat.mod_lt _ (by decide)⟩ l

theorem outAt_eq (h : Splits m x) (c : Dev nD) : outAt m c = Layout.block ⟨2, ![128, 64]⟩ ⟨2, ![2048, 64]⟩ 0 16 c (sorted x) := by
  have hc : c.val < 16 := c.isLt
  refine funext fun i => ?_
  obtain ⟨r, l, rfl⟩ : ∃ (r : Fin 128) (l : Fin 64), i = ix2 r l := ⟨_, _, eq_ix2 i⟩
  have hr := r.isLt
  unfold outAt
  rw [mergeOut_apply, gathered_col h]
  refine (resultCol_eq x l ⟨128 * c.val + r.val, by omega⟩).trans ?_
  rw [Layout.block_apply]
  refine congrArg (sorted x) (funext fun a => Fin.ext ?_)
  rw [Layout.Tiles.idx_val]
  match a with
  | ⟨0, _⟩ =>
    show 128 * c.val + r.val = c.val * 128 + r.val
    omega
  | ⟨1, _⟩ => rfl

end kernel

/-- Read exactly, the kernel leaves on every device its block of what the reference leaves. -/
theorem algebraic : Cert.algebraic_KernelIdeal_ReferenceIdeal := by
  intro m g m' g' _ hm
  refine ⟨sorted (m' ((0 : Dev Cert.ReferenceIdeal.nD).tc.loc Cert.ReferenceIdeal.main_arg0)), ?_, ?_⟩
  · refine (θ_run Cert.KernelIdeal.defs _ _).mono (fun _ h c => ⟨(h.1 c).1.trans ?_, (h.1 c).2⟩) (run_ends (F := Ideal) m g)
    exact outAt_eq hm c
  · exact (θ_run Cert.ReferenceIdeal.defs _ _).mono (fun _ h => h 0) (Cert.ReferenceIdeal.Value.run (F := Ideal) m' g')

end Cert.SortProof

end
-- ==== Proof.lean ====
/- The claim, from the three frames and the value theorem. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts,
  SortProof.frame_bits, SortProof.frame_ideal, SortProof.frame_reference, trivial, SortProof.algebraic⟩

end Cert.Proof

end
